-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![4, 256, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S256x256 : Shape := ⟨2, ![256, 256]⟩
abbrev S2x128x256 : Shape := ⟨3, ![2, 128, 256]⟩
abbrev S128x256 : Shape := ⟨2, ![128, 256]⟩
abbrev S6 : Shape := ⟨1, ![6]⟩
abbrev S2 : Shape := ⟨1, ![2]⟩
abbrev S_ : Shape := ⟨0, ![]⟩
abbrev S1 : Shape := ⟨1, ![1]⟩
abbrev S1x128x256 : Shape := ⟨3, ![1, 128, 256]⟩
abbrev S256x1024 : Shape := ⟨2, ![256, 1024]⟩

abbrev nBuf : Space → Nat
  | .hbm => 2
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S256x256, .f32⟩
  | .local _ .vmem, ⟨0, _⟩ => ⟨S1x256x1024, .f32⟩
  | .local _ .vmem, ⟨1, _⟩ => ⟨S256x256, .f32⟩
  | .local _ .vmem, ⟨2, _⟩ => ⟨S2x128x256, .f32⟩
  | .local _ .vmem, ⟨3, _⟩ => ⟨S2x128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => true
  | ⟨1, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 2 14 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 1

abbrev nD : Nat := 4
abbrev τ : Topo := Topo.v7x

variable {F : FTy → Type} [FloatOps F]

abbrev grid0 : Pipeline.Grid := .none

def k0_dev1 (d1_r0 : Dev nD) : Nat :=
  let c0_i32_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c1_i32_0_r0 : BitVec 32 := 1#32
  let v4_r0 : BitVec 32 := Scalar.xori v3_r0 c1_i32_0_r0
  let c1_i32_2_r0 : BitVec 32 := 1#32
  let v8_r0 : BitVec 32 := Scalar.muli v4_r0 c1_i32_2_r0
  let v9_r0 : BitVec 32 := Scalar.addi c0_i32_r0 v8_r0
  v9_r0.toNat
def k0_dev2 (d1_r0 : Dev nD) : Nat :=
  let c0_i32_5_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c3_i32_r0 : BitVec 32 := 3#32
  let v5_r0 : BitVec 32 := Scalar.xori v3_r0 c3_i32_r0
  let c1_i32_4_r0 : BitVec 32 := 1#32
  let v10_r0 : BitVec 32 := Scalar.muli v5_r0 c1_i32_4_r0
  let v11_r0 : BitVec 32 := Scalar.addi c0_i32_5_r0 v10_r0
  v11_r0.toNat
def k0_off1 (d1_r0 : Dev nD) (c2_i32_r0 : BitVec 32) : Fin 2 → Nat :=
  let c0_i32_20_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let v6_r0 : BitVec 32 := Scalar.xori v3_r0 c2_i32_r0
  let c256_i32_r0 : BitVec 32 := 256#32
  let v12_r0 : BitVec 32 := Scalar.muli v6_r0 c256_i32_r0
  ![0, v12_r0.toNat]
def k0_dev3 (d1_r0 : Dev nD) : Nat :=
  let c0_i32_15_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c1_i32_0_r0 : BitVec 32 := 1#32
  let v4_r0 : BitVec 32 := Scalar.xori v3_r0 c1_i32_0_r0
  let c1_i32_14_r0 : BitVec 32 := 1#32
  let v16_r0 : BitVec 32 := Scalar.muli v4_r0 c1_i32_14_r0
  let v17_r0 : BitVec 32 := Scalar.addi c0_i32_15_r0 v16_r0
  v17_r0.toNat
def k0_dev4 (d1_r0 : Dev nD) : Nat :=
  let c0_i32_26_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c1_i32_0_r0 : BitVec 32 := 1#32
  let v4_r0 : BitVec 32 := Scalar.xori v3_r0 c1_i32_0_r0
  let c1_i32_25_r0 : BitVec 32 := 1#32
  let v27_r0 : BitVec 32 := Scalar.muli v4_r0 c1_i32_25_r0
  let v28_r0 : BitVec 32 := Scalar.addi c0_i32_26_r0 v27_r0
  v28_r0.toNat
def k0_off2 (d1_r0 : Dev nD) (c2_i32_r0 : BitVec 32) : Fin 2 → Nat :=
  let c128_i32_r0 : BitVec 32 := 128#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let v6_r0 : BitVec 32 := Scalar.xori v3_r0 c2_i32_r0
  let c256_i32_7_r0 : BitVec 32 := 256#32
  let v14_r0 : BitVec 32 := Scalar.muli v6_r0 c256_i32_7_r0
  ![128, v14_r0.toNat]
def k0_dev5 (d1_r0 : Dev nD) : Nat :=
  let c0_i32_39_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c3_i32_r0 : BitVec 32 := 3#32
  let v5_r0 : BitVec 32 := Scalar.xori v3_r0 c3_i32_r0
  let c1_i32_38_r0 : BitVec 32 := 1#32
  let v38_r0 : BitVec 32 := Scalar.muli v5_r0 c1_i32_38_r0
  let v39_r0 : BitVec 32 := Scalar.addi c0_i32_39_r0 v38_r0
  v39_r0.toNat
def k0_dev6 (d1_r0 : Dev nD) : Nat :=
  let c0_i32_49_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c3_i32_r0 : BitVec 32 := 3#32
  let v5_r0 : BitVec 32 := Scalar.xori v3_r0 c3_i32_r0
  let c1_i32_48_r0 : BitVec 32 := 1#32
  let v49_r0 : BitVec 32 := Scalar.muli v5_r0 c1_i32_48_r0
  let v50_r0 : BitVec 32 := Scalar.addi c0_i32_49_r0 v49_r0
  v50_r0.toNat
def k0_off3 (d1_r0 : Dev nD) : Fin 2 → Nat :=
  let c0_71_r0 : Index := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c3_i32_r0 : BitVec 32 := 3#32
  let v5_r0 : BitVec 32 := Scalar.xori v3_r0 c3_i32_r0
  let c256_i32_67_r0 : BitVec 32 := 256#32
  let v71_r0 : BitVec 32 := Scalar.muli v5_r0 c256_i32_67_r0
  let v74_r0 : Index := Scalar.indexCast v71_r0
  ![0, v74_r0.toNat]
def k0_dev7 (d1_r0 : Dev nD) : Nat :=
  let c0_i32_76_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c3_i32_r0 : BitVec 32 := 3#32
  let v5_r0 : BitVec 32 := Scalar.xori v3_r0 c3_i32_r0
  let c1_i32_75_r0 : BitVec 32 := 1#32
  let v81_r0 : BitVec 32 := Scalar.muli v5_r0 c1_i32_75_r0
  let v82_r0 : BitVec 32 := Scalar.addi c0_i32_76_r0 v81_r0
  v82_r0.toNat
def k0_off4 (d1_r0 : Dev nD) : Fin 2 → Nat :=
  let c128_r0 : Index := 128#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c1_i32_0_r0 : BitVec 32 := 1#32
  let v4_r0 : BitVec 32 := Scalar.xori v3_r0 c1_i32_0_r0
  let c256_i32_91_r0 : BitVec 32 := 256#32
  let v96_r0 : BitVec 32 := Scalar.muli v4_r0 c256_i32_91_r0
  let v99_r0 : Index := Scalar.indexCast v96_r0
  ![128, v99_r0.toNat]
def k0_dev8 (d1_r0 : Dev nD) : Nat :=
  let c0_i32_98_r0 : BitVec 32 := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c1_i32_0_r0 : BitVec 32 := 1#32
  let v4_r0 : BitVec 32 := Scalar.xori v3_r0 c1_i32_0_r0
  let c1_i32_97_r0 : BitVec 32 := 1#32
  let v106_r0 : BitVec 32 := Scalar.muli v4_r0 c1_i32_97_r0
  let v107_r0 : BitVec 32 := Scalar.addi c0_i32_98_r0 v106_r0
  v107_r0.toNat
def k0_off5 (d1_r0 : Dev nD) : Fin 2 → Nat :=
  let c0_117_r0 : Index := 0#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c256_i32_113_r0 : BitVec 32 := 256#32
  let v121_r0 : BitVec 32 := Scalar.muli v3_r0 c256_i32_113_r0
  let v124_r0 : Index := Scalar.indexCast v121_r0
  ![0, v124_r0.toNat]
def k0_off6 (d1_r0 : Dev nD) : Fin 2 → Nat :=
  let c128_143_r0 : Index := 128#32
  let v1_r0 : BitVec 32 := Dev.word d1_r0
  let c1_i32_r0 : BitVec 32 := 1#32
  let v2_r0 : BitVec 32 := Scalar.divsi v1_r0 c1_i32_r0
  let c4_i32_r0 : BitVec 32 := 4#32
  let v3_r0 : BitVec 32 := Scalar.remsi v2_r0 c4_i32_r0
  let c256_i32_139_r0 : BitVec 32 := 256#32
  let v144_r0 : BitVec 32 := Scalar.muli v3_r0 c256_i32_139_r0
  let v147_r0 : Index := Scalar.indexCast v144_r0
  ![128, v147_r0.toNat]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S_, .f32⟩
  | .hbm, ⟨2, _⟩ => ⟨S256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cells.lean ====
/-
# The exchange of the four devices: peers, semaphores, copies, and who owes what

The kernel cuts its block of `x` into four column chunks and two row halves and sums chunk `c` of all four
blocks on device `c` in two hops. Each device talks with two peers only: `peer 0 c` is the device `c` with
bit 0 flipped, `peer 1 c` the device with both bits flipped. The top halves travel along peer 0 first and then
along peer 1, the bottom halves the other way round.

A device has fourteen cells of its own: two handshakes (the runtime's barrier semaphore and the kernel's gate),
six for its sends and six for the copies that land on it. Every cell counts one round with one payment. A
handshake hands the signaller's three landing places over to the device signalled; a landing hands the place back
holding what was sent; a send's completion returns the share of the source the copy read from.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The bookkeeping of the exchange's rounds: one payer per cell and round, so the payers need no name. -/
abbrev UB : Type := URounds (GSem nD τ sig) Unit
/-- The staging copies' bookkeeping beside the exchange's. -/
abbrev UU : Type := UR sig nD τ × UB

local notation "𝕄" => MT nD τ sig Unit (Elt F) ℕ UU ℕ

/-- Where the staging copies' bookkeeping lies. -/
abbrev EP : Emb (UR sig nD τ) (MT nD τ sig Unit (Elt F) ℕ UU ℕ) := embL
/-- Where the exchange's lies. -/
abbrev ER : Emb UB (MT nD τ sig Unit (Elt F) ℕ UU ℕ) := embR

/-! ## Peers -/

/-- The two devices a device talks with: bit 0 flipped, and both bits flipped. -/
def peer (k : Fin 2) (c : Dev nD) : Dev nD :=
  (![![1, 0, 3, 2], ![3, 2, 1, 0]] : Fin 2 → Fin 4 → Fin 4) k c

/-- Flipping the same bits twice comes back. -/
theorem peer_peer (k : Fin 2) (c : Dev nD) : peer k (peer k c) = c := by revert k c; decide

/-- Each handshake's flip as a permutation of the devices. -/
def flip (k : Fin 2) : Dev nD ≃ Dev nD := ⟨peer k, peer k, peer_peer k, peer_peer k⟩

/-! The device each signal and each copy of the kernel is addressed to. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 1 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 0 c := by revert c; decide +kernel

/-! ## The six copies

Numbered as their send semaphores: 0 and 1 the chunks to be relayed (top, bottom), 2 and 3 the peers' own chunks,
4 and 5 the relayed sums. -/

/-- Which peer each copy goes to. -/
def ax : Fin 6 → Fin 2 := ![0, 1, 0, 1, 1, 0]
/-- The device copy `i` of device `c` goes to, which is also the one copy `i` comes from. -/
abbrev tgt (i : Fin 6) (c : Dev nD) : Dev nD := peer (ax i) c
theorem tgt_tgt (i : Fin 6) (c : Dev nD) : tgt i (tgt i c) = c := peer_peer _ c

/-- The staged block of `x`, its leading axis of one dropped: 256 rows of 1024 columns. -/
abbrev xM : Memref sig .tc .vmem S256x1024 .f32 :=
  ((Memref.whole cc0_stg0_0).slice (Rect.unit (s := S1x256x1024) ![0, 0, 0] S1x256x1024.size inb_S1x256x1024_S1x256x1024_0_0_0) (fun _ => rfl)).squeeze
    S256x1024 squeezes_S1x256x1024_S256x1024
/-- The two slots of a landing buffer of two tiles. -/
abbrev rSlot1 : Rect S2x128x256 := Rect.unit (s := S2x128x256) ![1, 0, 0] S1x128x256.size inb_S2x128x256_S1x128x256_1_0_0
abbrev rSlot0 : Rect S2x128x256 := Rect.unit (s := S2x128x256) ![0, 0, 0] S1x128x256.size inb_S2x128x256_S1x128x256_0_0_0

/-- What each copy reads, on device `c`. -/
def srcM : Fin 6 → Dev nD → Memref sig .tc .vmem S128x256 .f32
  | 0, c => xM.slice (Rect.unit (s := S256x1024) (k0_off1 c 2#32) S128x256.size (k0_off1_inb c 1)) (fun _ => rfl)
  | 1, c => xM.slice (Rect.unit (s := S256x1024) (k0_off2 c 2#32) S128x256.size (k0_off2_inb c 0)) (fun _ => rfl)
  | 2, c => xM.slice (Rect.unit (s := S256x1024) (k0_off1 c 1#32) S128x256.size (k0_off1_inb c 0)) (fun _ => rfl)
  | 3, c => xM.slice (Rect.unit (s := S256x1024) (k0_off2 c 3#32) S128x256.size (k0_off2_inb c 1)) (fun _ => rfl)
  | 4, _ => Memref.whole cc0_scratch4
  | 5, _ => Memref.whole cc0_scratch5

/-- Where each copy lands, on the device it goes to. -/
def dstM : Fin 6 → Memref sig .tc .vmem S128x256 .f32
  | 0 => ((Memref.whole cc0_scratch0).slice rSlot1 (fun _ => rfl)).squeeze S128x256 squeezes_S1x128x256_S128x256
  | 1 => ((Memref.whole cc0_scratch1).slice rSlot1 (fun _ => rfl)).squeeze S128x256 squeezes_S1x128x256_S128x256
  | 2 => ((Memref.whole cc0_scratch0).slice rSlot0 (fun _ => rfl)).squeeze S128x256 squeezes_S1x128x256_S128x256
  | 3 => ((Memref.whole cc0_scratch1).slice rSlot0 (fun _ => rfl)).squeeze S128x256 squeezes_S1x128x256_S128x256
  | 4 => Memref.whole cc0_scratch2
  | 5 => Memref.whole cc0_scratch3

/-- What one tile's copy counts on a semaphore. -/
abbrev N : ℕ := (Memref.whole cc0_scratch2 : Memref sig .tc .vmem S128x256 .f32).view.dmaCredit
theorem N_pos : 0 < N := View.dmaCredit_pos _ (by decide)
theorem dst_amount (i : Fin 6) (sm : DmaSem sig) : (dstM i).view.amount (.dma sm) = N := by
  fin_cases i <;> rfl

/-! ## The cells -/

/-- The handshake semaphores: the runtime's barrier and the kernel's gate. -/
def hsS : Fin 2 → Sem sig
  | 0 => (SemArray.scalar (sig.barrier 0 rfl) : Sems sig S_).sem
  | 1 => cc0_scoped0.sem
/-- Each copy's send semaphore. -/
def sendS : Fin 6 → DmaSem sig
  | 0 => ((cc0_scratch6.slice (Rect.unit (s := S6) ![0] S1.size inb_S6_S1_0)).squeeze S_ squeezes_S1_S_).sem
  | 1 => ((cc0_scratch6.slice (Rect.unit (s := S6) ![1] S1.size inb_S6_S1_1)).squeeze S_ squeezes_S1_S_).sem
  | 2 => ((cc0_scratch6.slice (Rect.unit (s := S6) ![2] S1.size inb_S6_S1_2)).squeeze S_ squeezes_S1_S_).sem
  | 3 => ((cc0_scratch6.slice (Rect.unit (s := S6) ![3] S1.size inb_S6_S1_3)).squeeze S_ squeezes_S1_S_).sem
  | 4 => ((cc0_scratch6.slice (Rect.unit (s := S6) ![4] S1.size inb_S6_S1_4)).squeeze S_ squeezes_S1_S_).sem
  | 5 => ((cc0_scratch6.slice (Rect.unit (s := S6) ![5] S1.size inb_S6_S1_5)).squeeze S_ squeezes_S1_S_).sem
/-- Each copy's receive semaphore. -/
def recvS : Fin 6 → DmaSem sig
  | 0 => ((cc0_scratch7.slice (Rect.unit (s := S2) ![1] S1.size inb_S2_S1_1)).squeeze S_ squeezes_S1_S_).sem
  | 1 => ((cc0_scratch8.slice (Rect.unit (s := S2) ![1] S1.size inb_S2_S1_1)).squeeze S_ squeezes_S1_S_).sem
  | 2 => ((cc0_scratch7.slice (Rect.unit (s := S2) ![0] S1.size inb_S2_S1_0)).squeeze S_ squeezes_S1_S_).sem
  | 3 => ((cc0_scratch8.slice (Rect.unit (s := S2) ![0] S1.size inb_S2_S1_0)).squeeze S_ squeezes_S1_S_).sem
  | 4 => cc0_scratch9.sem
  | 5 => cc0_scratch10.sem

/-- A cell's part in the exchange: a handshake, a send, a landing. -/
abbrev Role : Type := Fin 2 ⊕ Fin 6 ⊕ Fin 6
abbrev hs (k : Fin 2) : Role := .inl k
abbrev snd (i : Fin 6) : Role := .inr (.inl i)
abbrev rcv (i : Fin 6) : Role := .inr (.inr i)

/-- Each part's semaphore. -/
def csem : Role → SemLoc sig
  | .inl k => .reg (hsS k)
  | .inr (.inl i) => .dma (sendS i)
  | .inr (.inr i) => .dma (recvS i)

/-- The cell of part `r` on device `c`. -/
abbrev cell (c : Dev nD) (r : Role) : GSem nD τ sig := ((c : Thread nD τ), csem r)

theorem csem_inj : ∀ r r' : Role, csem r = csem r' → r = r' := by decide +kernel

/-- The part a semaphore plays, if any. -/
def roleOf (sm : SemLoc sig) : Option Role := by
  classical exact if h : ∃ r, csem r = sm then some h.choose else none
theorem roleOf_csem (r : Role) : roleOf (csem r) = some r := by
  unfold roleOf
  have h : ∃ r', csem r' = csem r := ⟨r, rfl⟩
  rw [dif_pos h]
  exact congrArg some (csem_inj _ _ h.choose_spec)

theorem cell_inj {c c' : Dev nD} {r r' : Role} (h : cell c r = cell c' r') : c = c' ∧ r = r' :=
  ⟨congrArg (fun g : GSem nD τ sig => g.1.1) h, csem_inj _ _ (congrArg Prod.snd h)⟩

/-! ## What travels -/

section Data
variable (X : Dev nD → (cc0_stg0_0 : Ref sig .tc).ty.Contents (Elt F))

/-- The tile of the block of `x` at the given corner. -/
abbrev xAt (o : Fin 2 → Nat) (h : ∀ a, o a + S128x256.size a ≤ S256x1024.size a) (f : (cc0_stg0_0 : Ref sig .tc).ty.Contents (Elt F)) :
    Vec F S128x256 .f32 := xM.view.readAt (Elt F) (Rect.unit (s := S256x1024) o S128x256.size h).toLoadRect f

/-- The top half to be relayed: what peer 0 sent for it, plus the device's own tile. -/
def relayA (c : Dev nD) : Vec F S128x256 .f32 :=
  addf (xAt _ (k0_off1_inb (peer 0 c) 1) (X (peer 0 c)) : FVec F S128x256 .f32) (xAt _ (k0_off3_inb c) (X c))
/-- The bottom half to be relayed: what peer 1 sent for it, plus the device's own tile. -/
def relayB (c : Dev nD) : Vec F S128x256 .f32 :=
  addf (xAt _ (k0_off2_inb (peer 1 c) 0) (X (peer 1 c)) : FVec F S128x256 .f32) (xAt _ (k0_off4_inb c) (X c))

/-- The contents of the buffer copy `i` of device `c` reads from. -/
def srcBuf : (i : Fin 6) → (c : Dev nD) → Buf (Elt F) ((srcM i c).view.loc (c : Thread nD τ))
  | 0, c => X c
  | 1, c => X c
  | 2, c => X c
  | 3, c => X c
  | 4, c => relayA X c
  | 5, c => relayB X c

/-- The tile copy `i` of device `c` carries. -/
def sent (i : Fin 6) (c : Dev nD) : Vec F S128x256 .f32 := (srcM i c).view.read (Elt F) (srcBuf X i c)
/-- The tile copy `i` leaves on device `c`. -/
def landed (i : Fin 6) (c : Dev nD) : Vec F S128x256 .f32 := sent X i (tgt i c)

end Data

/-- The share of its source a copy holds while in flight: a quarter for each of the four reading `x`, which the device
    goes on loading from; all of a relayed sum. -/
def shr : Fin 6 → PosShare TreeShare
  | 0 => Transfers.shareTok fullShare 4 0
  | 1 => Transfers.shareTok fullShare 4 1
  | 2 => Transfers.shareTok fullShare 4 2
  | 3 => Transfers.shareTok fullShare 4 3
  | 4 => fullShare
  | 5 => fullShare

section Payments
variable (X : Dev nD → (cc0_stg0_0 : Ref sig .tc).ty.Contents (Elt F))

/-- Copy `i`'s source on device `c`, at the share the copy takes. -/
def srcPts (i : Fin 6) (c : Dev nD) : sProp 𝕄 :=
  (srcM i c).view.loc (c : Thread nD τ) ↦[(srcM i c).view.set]{shr i} srcBuf X i c
/-- Copy `i`'s landing place on device `c`, at some contents. -/
def land (i : Fin 6) (c : Dev nD) : sProp 𝕄 :=
  iprop(∃ f, (dstM i).view.loc (c : Thread nD τ) ↦[(dstM i).view.set]{fullShare} f)
/-- Copy `i`'s landing place on device `c`, holding what was sent. -/
def full (i : Fin 6) (c : Dev nD) : sProp 𝕄 :=
  iprop(∃ f, ⌜(dstM i).view.read (Elt F) f = landed X i c⌝ ∗ (dstM i).view.loc (c : Thread nD τ) ↦[(dstM i).view.set]{fullShare} f)
/-- The three landing places handshake `k` hands over, those of device `c`. -/
def lands (k : Fin 2) (c : Dev nD) : sProp 𝕄 := match k with
  | 0 => iprop(land 0 c ∗ land 2 c ∗ land 5 c)
  | 1 => iprop(land 1 c ∗ land 3 c ∗ land 4 c)

/-- What the one payment into the cell of part `r` on device `c` hands over. -/
def pay : Role → Dev nD → sProp 𝕄
  | .inl k, c => lands k (peer k c)
  | .inr (.inl i), c => srcPts X i c
  | .inr (.inr i), c => full X i c

omit [FloatOps F] in
instance land_storable (i : Fin 6) (c : Dev nD) : BI.Storable (upEmb : UEmb _ 𝕄) (land (F := F) i c) := by unfold land; infer_instance
instance pay_storable (r : Role) (c : Dev nD) : BI.Storable (upEmb : UEmb _ 𝕄) (pay (F := F) X r c) := by
  rcases r with k | i | i
  · show BI.Storable _ (lands k (peer k c))
    unfold lands; fin_cases k <;> infer_instance
  · show BI.Storable _ (srcPts X i c); unfold srcPts; infer_instance
  · show BI.Storable _ (full X i c); unfold full; infer_instance

open Classical in
/-- One round, one payment: a unit into a handshake, a tile's count into a send or a landing. -/
def sched : Rounds.Schedule (GSem nD τ sig) Unit 𝕄 where
  duties g r := if r = 0 ∧ g.1.2 = .tc ∧ (roleOf g.2).isSome then {()} else ∅
  unitless _ := False
  amount g _ _ := match g.2 with | .reg _ => 1 | .dma _ => N
  payload g _ _ := match roleOf g.2 with | some r => pay X r g.1.1 | none => iprop(emp)
  amount_pos g _ _ _ := by
    rcases g with ⟨t, s | s⟩
    · exact Nat.one_pos
    · exact N_pos

instance sched_storable (g : GSem nD τ sig) (r : ℕ) (d : Unit) : BI.Storable (upEmb : UEmb _ 𝕄) ((sched (F := F) X).payload g r d) := by
  show BI.Storable upEmb (match roleOf g.2 with | some r => pay X r g.1.1 | none => iprop(emp))
  split <;> infer_instance

/-- The count of the payment into a cell of part `r`. -/
def amt : Role → ℕ
  | .inl _ => 1
  | .inr _ => N

variable (c : Dev nD) (r : Role)

theorem duties_eq : (sched (F := F) X).duties (cell c r) 0 = {()} := by
  dsimp only [sched]; rw [roleOf_csem]; exact if_pos ⟨rfl, rfl, rfl⟩
theorem duties_mem : () ∈ (sched (F := F) X).duties (cell c r) 0 := by rw [duties_eq]; exact Finset.mem_singleton_self _
theorem duties_later (g : GSem nD τ sig) : ∀ n, 1 ≤ n → (sched (F := F) X).duties g n = ∅ :=
  fun n hn => by dsimp only [sched]; exact if_neg fun h => by omega
theorem amount_eq (d : Unit) : (sched (F := F) X).amount (cell c r) 0 d = amt r := by
  rcases r with k | i | i <;> rfl
theorem payload_eq (d : Unit) : (sched (F := F) X).payload (cell c r) 0 d = pay X r c := by
  dsimp only [sched]; rw [roleOf_csem]
theorem expect_eq : (sched (F := F) X).expect (cell c r) 0 = amt r := by
  unfold Schedule.expect Schedule.amountOf; rw [duties_eq, Finset.sum_singleton, amount_eq]
/-- The rest of a cell's round, nothing taken yet, is its one payment. -/
theorem rest_eq : bigSep ((sched (F := F) X).duties (cell c r) 0 \ ∅) (fun d => (sched (F := F) X).payload (cell c r) 0 d) = pay X r c := by
  rw [Finset.sdiff_empty, duties_eq, bigSep_singleton, payload_eq]

end Payments

/-! ## What a device owes, and the order of waiting -/

/-- Device `c` owes copy `i` its landing. -/
abbrev oweOne (c : Dev nD) (i : Fin 6) : CellTallies nD τ sig Unit := tallyAt (cell (tgt i c) (rcv i)) () N
/-- The landings of the copies of a list, the first one to be issued summed last. -/
def oweL (c : Dev nD) : List (Fin 6) → CellTallies nD τ sig Unit
  | [] => 0
  | i :: l => oweL c l + oweOne c i
/-- The copies in the order the kernel issues them. -/
abbrev order : List (Fin 6) := [0, 2, 1, 3, 4, 5]
/-- Device `c` owes both peers a signal and its six copies. -/
def O₁ (c : Dev nD) : CellTallies nD τ sig Unit := oweL c order + tallyAt (cell (peer 1 c) (hs 1)) () 1
def O₀ (c : Dev nD) : CellTallies nD τ sig Unit := O₁ c + tallyAt (cell (peer 0 c) (hs 0)) () 1

/-- Only a device's tensor core has levels. -/
def L (g : GSem nD τ sig) : Finset Unit := if g.1.2 = .tc then {()} else ∅
/-- Handshakes are waited for before direct landings, those before relayed ones; staging copies and sends come first of all. -/
def rlev : Role → ℕ
  | .inl _ => 1
  | .inr (.inl _) => 0
  | .inr (.inr i) => if i.val < 4 then 2 else 3
def lv (g : GSem nD τ sig) (_ : Unit) : ℕ := match roleOf g.2 with | some r => rlev r | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (r : Role) (u : Unit) : lv (cell c r) u = rlev r := by
  unfold lv; rw [roleOf_csem]

theorem tally_pos {g g' : GSem nD τ sig} {u u' : Unit} {n : ℕ} (h : 0 < (tallyAt g' u' n : CellTallies nD τ sig Unit) g u) : g = g' := by
  rw [tallyAt_apply] at h
  by_contra hn
  rw [if_neg (fun h' => hn h'.1)] at h
  exact Nat.lt_irrefl 0 h

/-- What is owed to a list of copies is owed to their landings only. -/
theorem oweL_pos {c : Dev nD} {g : GSem nD τ sig} {u : Unit} : ∀ {l : List (Fin 6)}, 0 < oweL c l g u → ∃ i ∈ l, g = cell (tgt i c) (rcv i)
  | [], h => absurd h (Nat.lt_irrefl 0)
  | i :: l, h => by
    unfold oweL at h
    rw [Pi.add_apply, Finsupp.add_apply] at h
    rcases Nat.add_pos_iff_pos_or_pos.mp h with h | h
    · obtain ⟨j, hj, hg⟩ := oweL_pos h
      exact ⟨j, List.mem_cons_of_mem _ hj, hg⟩
    · exact ⟨i, List.mem_cons_self, tally_pos h⟩

/-- What is owed at the start is owed to a handshake or a landing of a peer. -/
theorem O₀_pos {c : Dev nD} {g : GSem nD τ sig} {u : Unit} (h : 0 < O₀ c g u) : ∃ d r, g = cell d r ∧ 1 ≤ rlev r := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨i, -, hg⟩ := oweL_pos h
      exact ⟨_, _, hg, (by decide : ∀ j : Fin 6, 1 ≤ rlev (rcv j)) i⟩
    · exact ⟨_, _, tally_pos h, le_rfl⟩
  · exact ⟨_, _, tally_pos h, le_rfl⟩

omit [FloatOps F] in
/-- A device owing only landings of a higher level may wait on a cell of its own. -/
theorem mayWait_oweL (c : Dev nD) (r : Role) (l : List (Fin 6)) (hl : ∀ i ∈ l, rlev r < rlev (rcv i)) :
    (levAts L lv : sProp 𝕄) ⊢ MayWait (c : Thread nD τ) (csem r) () (oweL c l) :=
  MayOwe.of_cut (L := L) (lev := lv) (rlev r) (fun p hp => by rw [Finset.mem_singleton.mp hp, L_tc]; exact Finset.mem_singleton_self _)
    (fun g u hg => by obtain ⟨i, -, rfl⟩ := oweL_pos hg; exact Finset.mem_singleton_self _)
    (fun p hp => by rw [Finset.mem_singleton.mp hp]; exact (lv_cell c r ()).le)
    (fun g u hg => by obtain ⟨i, hi, rfl⟩ := oweL_pos hg; rw [lv_cell]; exact hl i hi)

omit [FloatOps F] in
/-- A staging copy may be waited for at any time: its semaphore has no part in the exchange. -/
theorem mayWait_stage (c : Dev nD) (q : DmaSem sig) (hq : ∀ r, csem r ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, r, rfl, -⟩ := O₀_pos hg; exact Finset.mem_singleton_self _)
      (fun p hp => by
        rw [Finset.mem_singleton.mp hp]
        have h : ¬ ∃ r, csem r = SemLoc.dma q := fun ⟨r, hr⟩ => hq r hr
        show (match roleOf (SemLoc.dma q) with | some r => rlev r | none => 0) ≤ 0
        have : roleOf (SemLoc.dma q : SemLoc sig) = none := by unfold roleOf; exact dif_neg h
        rw [this])
      (fun g u hg => by obtain ⟨d, r, rfl, hr⟩ := O₀_pos hg; rw [lv_cell]; exact hr)
  · rw [MayWait_zero]; iintro -; iempintro

end Cert.Exchange
-- ==== Proof.Steps.lean ====
/-
# The steps of the exchange

One rule for each way a device touches the exchange: a signal to a peer, a wait on one of its own cells, a copy to a
peer. Each takes the cells' records, which every device shares, and moves what the cell's one payment carries.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's loops need no variants. -/
abbrev 𝒱₀ : Variants := Variants.none

variable (X : Dev nD → (cc0_stg0_0 : Ref sig .tc).ty.Contents (Elt F))
variable (K : Dev nD × Role → ℕ)

/-- What all devices know of all cells: their invariants, under the names `K`, and that their one round has begun. -/
def records : sProp 𝕄 :=
  iprop((bigSep Finset.univ fun ck : Dev nD × Role => cellInv ER (sched X) (K ck) (cell ck.1 ck.2))
    ∗ bigSep Finset.univ fun ck : Dev nD × Role => reached ER (cell ck.1 ck.2) 0)

instance records_persistent : BI.Persistent (records (F := F) X K) := by unfold records; infer_instance

omit [FloatOps F] in
/-- One of a family of facts. -/
theorem pick {Φ : Dev nD × Role → sProp 𝕄} (c : Dev nD) (r : Role) : bigSep Finset.univ Φ ⊢ Φ (c, r) := bigSep_elim (Finset.mem_univ (c, r))

theorem records_inv (c : Dev nD) (r : Role) : records X K ⊢ cellInv ER (sched X) (K (c, r)) (cell c r) :=
  sep_elim_left.trans (pick c r)
theorem records_reached (c : Dev nD) (r : Role) : records X K ⊢ reached ER (cell c r) 0 :=
  sep_elim_right.trans (pick c r)

/-- What device `c` still owes, whatever it has waited for so far. -/
def debt (c : Dev nD) (O : CellTallies nD τ sig Unit) : sProp 𝕄 := iprop(∃ W : Waits sig Unit, owes (c : Thread nD τ) O W)

/-- The device's position before and after the one round of its cell of part `r`. -/
abbrev fresh (c : Dev nD) (r : Role) : sProp 𝕄 := atPos ER (cell c r) 0 ∅ 0
/-- The right to make the one payment into a cell. -/
abbrev tok (c : Dev nD) (r : Role) : sProp 𝕄 := dutyTok ER (cell c r) 0 ()
/-- The promise that the payment into a cell will come. -/
abbrev due (c : Dev nD) (r : Role) : sProp 𝕄 := cred (tallyAt (cell c r) () (amt r))

/-- What a signal of device `c` to its peer `p` carries: the landing places of `c`. -/
theorem pay_ping (p : Fin 2) (c : Dev nD) : lands p c ⊢ (sched (F := F) X).payload ((peer p c : Thread nD τ), .reg (hsS p)) 0 () :=
  Entails.of_eq ((payload_eq X (peer p c) (hs p) ()).trans (show lands p (peer p (peer p c)) = _ by rw [peer_peer])).symm

/-- What copy `i` of device `c` leaves on its peer is its landing place, full. -/
theorem pay_copy (i : Fin 6) (c : Dev nD) (f : Buf (Elt F) ((dstM i).view.loc (tgt i c : Thread nD τ))) :
    ((dstM i).view.loc (tgt i c : Thread nD τ) ↦[(dstM i).view.set]{fullShare}
        ((dstM i).view.write (Elt F) f ((srcM i c).view.read (Elt F) (srcBuf X i c)) Finset.univ) : sProp 𝕄)
      ⊢ (sched (F := F) X).payload (cell (tgt i c) (rcv i)) 0 () := by
  rw [payload_eq]
  show _ ⊢ full X i (tgt i c)
  unfold full
  iintro H
  iexists _
  isplitr
  rotate_left
  · iexact H
  · ipureintro
    rw [View.read_write_univ]
    unfold landed; rw [tgt_tgt]; rfl

/-- A signal to peer `p` of device `c` hands it the three landing places of `c` and settles the unit owed. -/
theorem wp_ping {α : Type} {Q : α → sProp 𝕄} {k : PUnit → Prog (TpuEff nD τ sig (Elt F) Λ₀ .tc) α}
    (p : Fin 2) (c n : Dev nD) (hn : n = peer p c) (v : ℤ) (hv : v = ((1 : ℕ) : ℤ)) (O : CellTallies nD τ sig Unit) :
    iprop(records X K ∗ debt c (O + tallyAt (cell (peer p c) (hs p)) () 1) ∗ tok (peer p c) (hs p) ∗ lands p c)
      ⊢ iprop((debt c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) (hsS p) v) k) Q) := by
  subst hn hv
  unfold debt
  iintro ⟨#HR, ⟨%W, HO⟩, Ht, Hl⟩ Hk
  iapply (Rounds.wp_signal 𝒱₀ ER (sched X) (c : Thread nD τ) none (dst := (peer p c : Thread nD τ)) (sem := hsS p) (r := 0) (d := ())
      (κ := K (peer p c, hs p)) (duties_mem X (peer p c) (hs p)) (amount_eq X (peer p c) (hs p) ()) () O rfl) $$ [HO Ht Hl]
  · isplitr; · iapply (records_inv X K (peer p c) (hs p)); iexact HR
    isplitl [HO]; · iexact HO
    isplitl [Ht]; · iexact Ht
    isplitl [Hl]
    · iapply (pay_ping X p c); iexact Hl
    iapply (records_reached X K (peer p c) (hs p)); iexact HR
  iintro HO
  iapply Hk
  iexists W; iexact HO

/-- A wait on the device's own cell of part `r` takes the payment and leaves the cell closed at zero. -/
theorem wp_take {α : Type} {Q : α → sProp 𝕄} {k : PUnit → Prog (TpuEff nD τ sig (Elt F) Λ₀ .tc) α}
    (r : Role) (c : Dev nD) {w : TpuEff nD τ sig (Elt F) Λ₀ .tc PUnit} {n : ℕ}
    (hw : ∀ R : PUnit → sProp 𝕄, wpE (defs₀ (F := F)) 𝒱₀ (c : Thread nD τ) none Set.univ w R = waitSpec (c : Thread nD τ) Set.univ (csem r) n R)
    (hn : n = amt r) (l : List (Fin 6)) (hl : ∀ i ∈ l, rlev r < rlev (rcv i)) :
    iprop(records X K ∗ levAts L lv ∗ due c r ∗ debt c (oweL c l) ∗ fresh c r)
      ⊢ iprop(((debt c (oweL c l) ∗ semVal (cell c r) 0 ∗ pay X r c) -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hn
  unfold debt
  iintro ⟨#HR, #Hlev, Hc, ⟨%W, HO⟩, Hat⟩ Hk
  iapply (Rounds.wp_wait_rest_token 𝒱₀ ER (sched X) (c : Thread nD τ) none (κ := K (c, r)) hw (Set.mem_univ _) () (O := oweL c l) (W := W)
      (R := 0) (m := 0) (T := ∅) (by rw [Nat.zero_add]; exact (expect_eq X c r).symm)) $$ [Hc HO Hat]
  · isplitr; · iapply (records_inv X K c r); iexact HR
    isplitl [Hc]; · iexact Hc
    isplitl [HO]; · iexact HO
    isplitr; · iapply (mayWait_oweL c r l hl); iexact Hlev
    iexact Hat
  iintro ⟨HO, Hat, -, Hpay⟩
  ihave Hp := (Entails.of_eq (rest_eq X c r)) $$ Hpay
  imod (Rounds.cell_close ER (sched X) (Set.mem_univ (K (c, r))) (fun h => h) (R := 0 + 1) (duties_later X (cell c r))) $$ [Hat] with Hz
  · isplitr; · iapply (records_inv X K c r); iexact HR
    iexact Hat
  iapply Hk
  isplitl [HO]; · iexists _; iexact HO
  isplitl [Hz]; · iexact Hz
  iexact Hp

/-- The wait on handshake `p` brings the peer's three landing places. -/
theorem wp_meet {α : Type} {Q : α → sProp 𝕄} {k : PUnit → Prog (TpuEff nD τ sig (Elt F) Λ₀ .tc) α}
    (p : Fin 2) (c : Dev nD) (v : ℤ) (hv : v = ((1 : ℕ) : ℤ)) (l : List (Fin 6)) (hl : ∀ i ∈ l, rlev (hs p) < rlev (rcv i)) :
    iprop(records X K ∗ levAts L lv ∗ due c (hs p) ∗ debt c (oweL c l) ∗ fresh c (hs p))
      ⊢ iprop(((debt c (oweL c l) ∗ semVal (cell c (hs p)) 0 ∗ lands p (peer p c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait (hsS p) v) k) Q) := by
  subst hv
  exact wp_take X K (hs p) c (n := 1) (wpE_semWait_eq 𝒱₀ (c : Thread nD τ) none Set.univ) rfl l hl

/-- Every copy is of one tile. -/
theorem dst_credit (i : Fin 6) : (dstM i).view.dmaCredit = N := by fin_cases i <;> rfl
theorem src_credit (i : Fin 6) (c : Dev nD) : (srcM i c).view.dmaCredit = N := by fin_cases i <;> rfl

/-- The wait for copy `i` to land brings the landing place, holding what was sent. -/
theorem wp_landed {α : Type} {Q : α → sProp 𝕄} {k : PUnit → Prog (TpuEff nD τ sig (Elt F) Λ₀ .tc) α}
    (i : Fin 6) (c : Dev nD) {hsrc : (srcM i c).view.WordExact} {hdst : (dstM i).view.WordExact} (l : List (Fin 6)) (hl : ∀ j ∈ l, rlev (rcv i) < rlev (rcv j)) :
    iprop(records X K ∗ levAts L lv ∗ due c (rcv i) ∗ debt c (oweL c l) ∗ fresh c (rcv i))
      ⊢ iprop(((debt c (oweL c l) ∗ semVal (cell c (rcv i)) 0 ∗ full X i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) (srcM i c) (dstM i) hsrc hdst) k) Q) :=
  wp_take X K (rcv i) c (wpE_waitDma2_eq 𝒱₀ (c : Thread nD τ) none Set.univ) (dst_credit i) l hl

/-- The wait for copy `i`'s send brings the share of its source back. -/
theorem wp_gone {α : Type} {Q : α → sProp 𝕄} {k : PUnit → Prog (TpuEff nD τ sig (Elt F) Λ₀ .tc) α}
    (i : Fin 6) (c : Dev nD) {hsrc : (dstM i).view.WordExact} {hdst : (srcM i c).view.WordExact} (l : List (Fin 6)) (hl : ∀ j ∈ l, rlev (snd i) < rlev (rcv j)) :
    iprop(records X K ∗ levAts L lv ∗ due c (snd i) ∗ debt c (oweL c l) ∗ fresh c (snd i))
      ⊢ iprop(((debt c (oweL c l) ∗ semVal (cell c (snd i)) 0 ∗ srcPts X i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) (dstM i) (srcM i c) hsrc hdst) k) Q) :=
  wp_take X K (snd i) c (wpE_waitDma2_eq 𝒱₀ (c : Thread nD τ) none Set.univ) (src_credit i c) l hl

/-- Copy `i` to its peer: the source's share and the peer's landing place go with it, the landing owed is settled, and
    the send's completion is due. -/
theorem wp_copy {α : Type} {Q : α → sProp 𝕄} {k : PUnit → Prog (TpuEff nD τ sig (Elt F) Λ₀ .tc) α}
    (i : Fin 6) (c n : Dev nD) (hn : n = tgt i c) (l : List (Fin 6))
    {hsc : (dstM i : Memref sig (Dev.tc n : Thread nD τ).2.kind .vmem S128x256 .f32).view.ref.isScScratch = false}
    {hsrc : (srcM i c).view.WordExact} {hdst : (dstM i).view.WordExact}
    {hsem : DmaTarget.Typed .vmem (.dma (recvS i)) (.remote (Dev.tc n : Thread nD τ) (dstM i) (.dma (sendS i)) hsc)} :
    iprop(records X K ∗ srcPts X i c ∗ land i (tgt i c) ∗ debt c (oweL c (i :: l)) ∗ tok c (snd i) ∗ tok (tgt i c) (rcv i))
      ⊢ iprop(((due c (snd i) ∗ debt c (oweL c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i c) (.remote (Dev.tc n : Thread nD τ) (dstM i) (.dma (sendS i)) hsc) (.dma (recvS i)) hsrc hdst hsem) k) Q) := by
  subst hn
  unfold debt srcPts land
  iintro ⟨#HR, Hs, ⟨%f, Hd⟩, ⟨%W, HO⟩, Ht, Ht'⟩ Hk
  iapply (Rounds.wp_send_pointsTo 𝒱₀ ER (sched X) (c : Thread nD τ) none (κ₁ := K (c, snd i)) (κ₂ := K (tgt i c, rcv i))
    (r₁ := 0) (r₂ := 0) (d₁ := ()) (d₂ := ()) (fd := f) (duties_mem X c (snd i)) (duties_mem X (tgt i c) (rcv i))
    () () N (dst_amount i _) (amount_eq X c (snd i) ()) (amount_eq X (tgt i c) (rcv i) ()) (oweL c l) rfl (W := W)
    (Entails.of_eq (payload_eq X c (snd i) ()).symm)
    (pay_copy X i c f)) $$ [Hs Hd HO Ht Ht']
  · isplitr; · iapply (records_inv X K c (snd i)); iexact HR
    isplitr; · iapply (records_inv X K (tgt i c) (rcv i)); iexact HR
    isplitl [Hs]; · iexact Hs
    isplitl [Hd]; · iexact Hd
    isplitl [HO]; · iexact HO
    isplitl [Ht]; · iexact Ht
    isplitr; · iapply (records_reached X K c (snd i)); iexact HR
    isplitl [Ht']; · iexact Ht'
    iapply (records_reached X K (tgt i c) (rcv i)); iexact HR
  iintro ⟨Hc, HO⟩
  iapply Hk
  isplitl [Hc]; · iexact Hc
  iexists W; iexact HO

end Cert.Exchange
-- ==== Proof.Tiles.lean ====
/-
# The tiles the kernel loads, stores and hands around

What the device's loads and stores come to, and how its buffers are taken apart for the copies and put together again:
the staged block of `x` into a share for its own loads and one for each of the four copies that read it, a landing
buffer of two tiles into its tiles.
-/
module

public import proofs.«01_k».proof.Proof.Steps
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Values -/

section Values
variable (X : Dev nD → (cc0_stg0_0 : Ref sig .tc).ty.Contents (Elt F))

/-- The top half of the result: own tile, plus peer 0's, plus the relayed sum. -/
def topOf (c : Dev nD) : Vec F S128x256 .f32 :=
  addf (addf (xAt _ (k0_off5_inb c) (X c) : FVec F S128x256 .f32) (landed X 2 c)) (landed X 4 c : FVec F S128x256 .f32)
/-- The bottom half: own tile, plus peer 1's, plus the relayed sum. -/
def botOf (c : Dev nD) : Vec F S128x256 .f32 :=
  addf (addf (xAt _ (k0_off6_inb c) (X c) : FVec F S128x256 .f32) (landed X 3 c)) (landed X 5 c : FVec F S128x256 .f32)

/-- The place of a result's entry within its half. -/
def within (j : S256x256.Idx) : S128x256.Idx := fun a => ⟨(j (a : Fin 2)).val % S128x256.size a, Nat.mod_lt _ (by fin_cases a <;> decide)⟩

/-- Two halves, one over the other. -/
def stack (t b : Vec F S128x256 .f32) : (cc0_stg1_0 : Ref sig .tc).ty.Contents (Elt F) :=
  fun j => if (j (0 : Fin 2)).val < 128 then t (within j) else b (within j)

/-- What device `c` leaves in its result. -/
def outOf (c : Dev nD) : (cc0_stg1_0 : Ref sig .tc).ty.Contents (Elt F) := stack (topOf X c) (botOf X c)

abbrev rTop : Rect S256x256 := Rect.unit (s := S256x256) ![0, 0] S128x256.size inb_S256x256_S128x256_0_0
abbrev rBot : Rect S256x256 := Rect.unit (s := S256x256) ![128, 0] S128x256.size inb_S256x256_S128x256_128_0
abbrev rTile : Rect S128x256 := Rect.unit (s := S128x256) ![0, 0] S128x256.size inb_S128x256_S128x256_0_0

omit [FloatOps F] in
/-- The two stores into the result leave the two halves, whatever was there before. -/
theorem store_halves (g : (cc0_stg1_0 : Ref sig .tc).ty.Contents (Elt F)) (t b : Vec F S128x256 .f32) :
    ((Memref.whole cc0_stg1_0 : Memref sig .tc .vmem S256x256 .f32).access rBot : View sig .tc _ _ _).write (Elt F)
        (((Memref.whole cc0_stg1_0 : Memref sig .tc .vmem S256x256 .f32).access rTop : View sig .tc _ _ _).write (Elt F) g t Finset.univ) b Finset.univ
      = stack t b := by
  have h1 := View.write_whole_slice_unit (Val := Elt F) cc0_stg1_0 ![0, 0] S128x256.size inb_S256x256_S128x256_0_0 g t
  have h2 := View.write_whole_slice_unit (Val := Elt F) cc0_stg1_0 ![128, 0] S128x256.size inb_S256x256_S128x256_128_0 (updateSlice g t ![0, 0] ⟨rfl, inb_S256x256_S128x256_0_0⟩) b
  refine (congrArg (fun z => ((Memref.whole cc0_stg1_0 : Memref sig .tc .vmem S256x256 .f32).access rBot : View sig .tc _ _ _).write (Elt F) z b Finset.univ) h1).trans (h2.trans ?_)
  funext j
  have hj0 : (j (0 : Fin 2)).val < 256 := (j (0 : Fin 2)).isLt
  have hj1 : (j (1 : Fin 2)).val < 256 := (j (1 : Fin 2)).isLt
  unfold updateSlice stack
  by_cases h : (j (0 : Fin 2)).val < 128
  · rw [if_pos h, dif_neg, dif_pos]
    · refine congrArg t (funext fun a => Fin.ext ?_)
      fin_cases a
      · show (j (0 : Fin 2)).val - 0 = (j (0 : Fin 2)).val % 128; omega
      · show (j (1 : Fin 2)).val - 0 = (j (1 : Fin 2)).val % 256; omega
    · intro a; fin_cases a
      · exact ⟨Nat.zero_le _, by show (j (0 : Fin 2)).val < 0 + 128; omega⟩
      · exact ⟨Nat.zero_le _, by show (j (1 : Fin 2)).val < 0 + 256; omega⟩
    · intro hh
      have := (hh (0 : Fin 2)).1
      have : 128 ≤ (j (0 : Fin 2)).val := this
      omega
  · rw [if_neg h, dif_pos]
    · refine congrArg b (funext fun a => Fin.ext ?_)
      fin_cases a
      · show (j (0 : Fin 2)).val - 128 = (j (0 : Fin 2)).val % 128; omega
      · show (j (1 : Fin 2)).val - 0 = (j (1 : Fin 2)).val % 256; omega
    · intro a; fin_cases a
      · exact ⟨by show 128 ≤ (j (0 : Fin 2)).val; omega, by show (j (0 : Fin 2)).val < 128 + 128; omega⟩
      · exact ⟨Nat.zero_le _, by show (j (1 : Fin 2)).val < 0 + 256; omega⟩

/-- The first stored sum, of a landed tile and an own one. -/
theorem pay1_eq (v : Vec F S1x128x256 .f32) (w l : Vec F S128x256 .f32) (h : shapeCast S128x256 v shapeCasts_S1x128x256_S128x256 = l) :
    k0_pay1 v w = addf (l : FVec F S128x256 .f32) w := by
  subst h; unfold k0_pay1; simp only [shapeCast_self]
theorem pay2_eq (v : Vec F S1x128x256 .f32) (w l : Vec F S128x256 .f32) (h : shapeCast S128x256 v shapeCasts_S1x128x256_S128x256 = l) :
    k0_pay2 v w = addf (l : FVec F S128x256 .f32) w := by
  subst h; unfold k0_pay2; simp only [shapeCast_self]
/-- The sums stored into the result, of an own tile, a landed one and a relayed one. -/
theorem pay3_eq (u : Vec F S128x256 .f32) (v : Vec F S1x128x256 .f32) (w l : Vec F S128x256 .f32)
    (h : shapeCast S128x256 v shapeCasts_S1x128x256_S128x256 = l) :
    k0_pay3 u v w = addf (addf (u : FVec F S128x256 .f32) l) (w : FVec F S128x256 .f32) := by
  subst h; unfold k0_pay3; simp only [shapeCast_self]
theorem pay4_eq (u : Vec F S128x256 .f32) (v : Vec F S1x128x256 .f32) (w l : Vec F S128x256 .f32)
    (h : shapeCast S128x256 v shapeCasts_S1x128x256_S128x256 = l) :
    k0_pay4 u v w = addf (addf (u : FVec F S128x256 .f32) l) (w : FVec F S128x256 .f32) := by
  subst h; unfold k0_pay4; simp only [shapeCast_self]

/-- What lands by copies 0 and 1, as the own loads read it on the peer. -/
theorem relayA_eq (c : Dev nD) : relayA X c = addf (landed X 0 c : FVec F S128x256 .f32) (xAt _ (k0_off3_inb c) (X c)) := rfl
theorem relayB_eq (c : Dev nD) : relayB X c = addf (landed X 1 c : FVec F S128x256 .f32) (xAt _ (k0_off4_inb c) (X c)) := rfl

omit [FloatOps F] in
theorem zero2 : (![0, 0] : Fin 2 → Nat) = fun _ => 0 := funext fun a => by fin_cases a <;> rfl

end Values

/-! ## The landing buffers -/

section Landing

omit [FloatOps F] in
theorem set_dst0 : (dstM 0).view.set = rSlot1.set := (View.set_reshape _ _).trans (View.set_slice_whole cc0_scratch0 rSlot1)
omit [FloatOps F] in
theorem set_dst1 : (dstM 1).view.set = rSlot1.set := (View.set_reshape _ _).trans (View.set_slice_whole cc0_scratch1 rSlot1)
omit [FloatOps F] in
theorem set_dst2 : (dstM 2).view.set = rSlot0.set := (View.set_reshape _ _).trans (View.set_slice_whole cc0_scratch0 rSlot0)
omit [FloatOps F] in
theorem set_dst3 : (dstM 3).view.set = rSlot0.set := (View.set_reshape _ _).trans (View.set_slice_whole cc0_scratch1 rSlot0)

omit [FloatOps F] in
theorem slots_disjoint : Disjoint rSlot0.set rSlot1.set := Rect.disjoint_of_separated _ _ (0 : Fin 3) (Or.inl (Or.inr (by decide)))

/-- A buffer held whole at some contents. -/
def held (c : Dev nD) (b : Ref sig .tc) : sProp 𝕄 := iprop(∃ f : Buf (Elt F) ((c : Thread nD τ).loc b), ((c : Thread nD τ).loc b) ↦{fullShare} f)
/-- Part of a buffer held at some contents. -/
def part (c : Dev nD) (b : Ref sig .tc) (S : Finset b.ty.shape.Idx) : sProp 𝕄 :=
  iprop(∃ f : Buf (Elt F) ((c : Thread nD τ).loc b), ((c : Thread nD τ).loc b) ↦[S]{fullShare} f)

omit [FloatOps F] in
/-- A buffer comes apart into two disjoint parts and the rest, -/
theorem held_apart (c : Dev nD) (b : Ref sig .tc) (A B : Finset b.ty.shape.Idx) (h : Disjoint B A) :
    held (F := F) c b ⊢ iprop(part c b A ∗ part c b B ∗ part c b ((Finset.univ \ A) \ B)) := by
  unfold held part
  iintro ⟨%f, H⟩
  ihave H' := (pointsTo_split_subset (Finset.subset_univ A)).1 $$ H
  icases H' with ⟨HA, HR⟩
  ihave H'' := (pointsTo_split_subset (S := Finset.univ \ A) (I := B) (fun x hx => Finset.mem_sdiff.mpr ⟨Finset.mem_univ _, fun hA => Finset.disjoint_left.mp h hx hA⟩)).1 $$ HR
  icases H'' with ⟨HB, HR⟩
  isplitl [HA]; · iexists f; iexact HA
  isplitl [HB]; · iexists f; iexact HB
  iexists f; iexact HR

omit [FloatOps F] in
/-- and together again. -/
theorem held_together (c : Dev nD) (b : Ref sig .tc) (A B : Finset b.ty.shape.Idx) (h : Disjoint B A) :
    iprop(part c b A ∗ part c b B ∗ part c b ((Finset.univ \ A) \ B)) ⊢ held (F := F) c b := by
  unfold held part
  iintro ⟨⟨%f, HA⟩, ⟨%g, HB⟩, ⟨%k, HR⟩⟩
  ihave H := (pointsTo_join_subset (S := Finset.univ \ A) (I := B) (g := g) (f := k) (fun x hx => Finset.mem_sdiff.mpr ⟨Finset.mem_univ _, fun hA => Finset.disjoint_left.mp h hx hA⟩)) $$ [HB HR]
  · isplitl [HB] <;> iassumption
  ihave H := (pointsTo_join_subset (ℓ := (c : Thread nD τ).loc b) (S := Finset.univ) (I := A) (Finset.subset_univ A)) $$ [HA H]
  · isplitl [HA] <;> iassumption
  iexists _; iexact H

omit [FloatOps F] in
theorem land0_eq (c : Dev nD) : land (F := F) 0 c = part c cc0_scratch0 rSlot1.set := by unfold land part; rw [set_dst0]; rfl
omit [FloatOps F] in
theorem land1_eq (c : Dev nD) : land (F := F) 1 c = part c cc0_scratch1 rSlot1.set := by unfold land part; rw [set_dst1]; rfl
omit [FloatOps F] in
theorem land2_eq (c : Dev nD) : land (F := F) 2 c = part c cc0_scratch0 rSlot0.set := by unfold land part; rw [set_dst2]; rfl
omit [FloatOps F] in
theorem land3_eq (c : Dev nD) : land (F := F) 3 c = part c cc0_scratch1 rSlot0.set := by unfold land part; rw [set_dst3]; rfl
omit [FloatOps F] in
theorem land4_eq (c : Dev nD) : land (F := F) 4 c = held c cc0_scratch2 := by
  unfold land held; rw [show (dstM 4).view.set = Finset.univ from View.set_whole _]; rfl
omit [FloatOps F] in
theorem land5_eq (c : Dev nD) : land (F := F) 5 c = held c cc0_scratch3 := by
  unfold land held; rw [show (dstM 5).view.set = Finset.univ from View.set_whole _]; rfl

/-- A landing place holding a known tile holds some. -/
theorem full_land (X : Dev nD → (cc0_stg0_0 : Ref sig .tc).ty.Contents (Elt F)) (i : Fin 6) (c : Dev nD) : full X i c ⊢ land (F := F) i c := by
  unfold full land
  iintro ⟨%f, -, H⟩; iexists f; iexact H

end Landing

/-! ## The staged block of x -/

section Staged
variable (X : Dev nD → (cc0_stg0_0 : Ref sig .tc).ty.Contents (Elt F))

/-- The share of the staged block the device keeps for its own loads. -/
def xKeep (c : Dev nD) : sProp 𝕄 := ((c : Thread nD τ).loc cc0_stg0_0) ↦{Transfers.shareDrop fullShare 4} X c
/-- What of a copy's share of the staged block its source, the entries `S`, does not cover. -/
def xRest (i : Fin 4) (c : Dev nD) (S : Finset S1x256x1024.Idx) : sProp 𝕄 :=
  ((c : Thread nD τ).loc cc0_stg0_0) ↦[Finset.univ \ S]{Transfers.shareTok fullShare 4 i} X c

omit [FloatOps F] in
theorem four (Φ : Fin 4 → sProp 𝕄) : bigSep Finset.univ Φ = iprop(Φ 0 ∗ Φ 1 ∗ Φ 2 ∗ Φ 3) := by
  have h : (Finset.univ : Finset (Fin 4)) = insert 0 (insert 1 (insert 2 {3})) := by decide
  rw [h, bigSep_insert (by decide), bigSep_insert (by decide), bigSep_insert (by decide), bigSep_singleton]; rfl

/-- The four remainders. -/
def xRests (c : Dev nD) : sProp 𝕄 :=
  iprop(xRest X 0 c (srcM 0 c).view.set ∗ xRest X 1 c (srcM 1 c).view.set ∗ xRest X 2 c (srcM 2 c).view.set ∗ xRest X 3 c (srcM 3 c).view.set)

/-- The share of one copy, split into its source and the remainder. -/
theorem tok_apart (i : Fin 4) (c : Dev nD) (S : Finset S1x256x1024.Idx) :
    (((c : Thread nD τ).loc cc0_stg0_0) ↦{Transfers.shareTok fullShare 4 i} X c : sProp 𝕄)
      ⊣⊢ iprop((((c : Thread nD τ).loc cc0_stg0_0) ↦[S]{Transfers.shareTok fullShare 4 i} X c) ∗ xRest X i c S) :=
  pointsTo_split_subset (Finset.subset_univ S)

theorem tok0_apart (c : Dev nD) : (((c : Thread nD τ).loc cc0_stg0_0) ↦{Transfers.shareTok fullShare 4 0} X c : sProp 𝕄)
    ⊣⊢ iprop(srcPts X 0 c ∗ xRest X 0 c (srcM 0 c).view.set) := tok_apart X 0 c _
theorem tok1_apart (c : Dev nD) : (((c : Thread nD τ).loc cc0_stg0_0) ↦{Transfers.shareTok fullShare 4 1} X c : sProp 𝕄)
    ⊣⊢ iprop(srcPts X 1 c ∗ xRest X 1 c (srcM 1 c).view.set) := tok_apart X 1 c _
theorem tok2_apart (c : Dev nD) : (((c : Thread nD τ).loc cc0_stg0_0) ↦{Transfers.shareTok fullShare 4 2} X c : sProp 𝕄)
    ⊣⊢ iprop(srcPts X 2 c ∗ xRest X 2 c (srcM 2 c).view.set) := tok_apart X 2 c _
theorem tok3_apart (c : Dev nD) : (((c : Thread nD τ).loc cc0_stg0_0) ↦{Transfers.shareTok fullShare 4 3} X c : sProp 𝕄)
    ⊣⊢ iprop(srcPts X 3 c ∗ xRest X 3 c (srcM 3 c).view.set) := tok_apart X 3 c _

/-- The staged block comes apart into the device's share and the copies' sources, -/
theorem x_apart (c : Dev nD) :
    (((c : Thread nD τ).loc cc0_stg0_0) ↦{fullShare} X c : sProp 𝕄)
      ⊢ iprop(xKeep X c ∗ (srcPts X 0 c ∗ srcPts X 1 c ∗ srcPts X 2 c ∗ srcPts X 3 c) ∗ xRests X c) := by
  iintro H
  ihave H' := (Transfers.pointsTo_toks_split fullShare 4) $$ H
  rw [four]
  icases H' with ⟨HK, H0, H1, H2, H3⟩
  ihave H0 := (tok0_apart X c).1 $$ H0
  ihave H1 := (tok1_apart X c).1 $$ H1
  ihave H2 := (tok2_apart X c).1 $$ H2
  ihave H3 := (tok3_apart X c).1 $$ H3
  icases H0 with ⟨H0, R0⟩
  icases H1 with ⟨H1, R1⟩
  icases H2 with ⟨H2, R2⟩
  icases H3 with ⟨H3, R3⟩
  isplitl [HK]; · unfold xKeep; iexact HK
  isplitl [H0 H1 H2 H3]
  · isplitl [H0]; · iexact H0
    isplitl [H1]; · iexact H1
    isplitl [H2]; · iexact H2
    iexact H3
  unfold xRests
  isplitl [R0]; · iexact R0
  isplitl [R1]; · iexact R1
  isplitl [R2]; · iexact R2
  iexact R3

/-- and together again. -/
theorem x_together (c : Dev nD) :
    iprop(xKeep X c ∗ (srcPts X 0 c ∗ srcPts X 1 c ∗ srcPts X 2 c ∗ srcPts X 3 c) ∗ xRests X c)
      ⊢ (((c : Thread nD τ).loc cc0_stg0_0) ↦{fullShare} X c : sProp 𝕄) := by
  unfold xRests xKeep
  iintro ⟨HK, ⟨H0, H1, H2, H3⟩, R0, R1, R2, R3⟩
  iapply (Transfers.pointsTo_toks_join fullShare 4)
  rw [four]
  isplitl [HK]; · iexact HK
  isplitl [H0 R0]; · iapply (tok0_apart X c).2; isplitl [H0] <;> iassumption
  isplitl [H1 R1]; · iapply (tok1_apart X c).2; isplitl [H1] <;> iassumption
  isplitl [H2 R2]; · iapply (tok2_apart X c).2; isplitl [H2] <;> iassumption
  iapply (tok3_apart X c).2; isplitl [H3] <;> iassumption

/-- The buffer of a relayed sum, as its copy's source. -/
theorem src4_eq (c : Dev nD) : srcPts X 4 c = (((c : Thread nD τ).loc cc0_scratch4) ↦{fullShare} relayA X c : sProp 𝕄) := by
  unfold srcPts; rw [show (srcM 4 c).view.set = Finset.univ from View.set_whole _]; rfl
theorem src5_eq (c : Dev nD) : srcPts X 5 c = (((c : Thread nD τ).loc cc0_scratch5) ↦{fullShare} relayB X c : sProp 𝕄) := by
  unfold srcPts; rw [show (srcM 5 c).view.set = Finset.univ from View.set_whole _]; rfl

end Staged

end Cert.Exchange
-- ==== Proof.Body.lean ====
/-
# The kernel's body on one device

The body followed from its first signal to its last wait: what a device holds at its start, what it holds at its end.
-/
module

public import proofs.«01_k».proof.Proof.Tiles

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))
variable (K : Dev nD × Role → ℕ)

/-- A family over the handshakes, and one over the copies. -/
abbrev two (Φ : Fin 2 → sProp 𝕄) : sProp 𝕄 := iprop(Φ 0 ∗ Φ 1)
abbrev six (Φ : Fin 6 → sProp 𝕄) : sProp 𝕄 := iprop(Φ 0 ∗ Φ 1 ∗ Φ 2 ∗ Φ 3 ∗ Φ 4 ∗ Φ 5)

/-- The device's position at each of its cells. -/
def positions (c : Dev nD) : sProp 𝕄 :=
  iprop(two (fun k => fresh c (hs k)) ∗ six (fun i => fresh c (snd i)) ∗ six (fun i => fresh c (rcv i)))
/-- The payments the device will make: to its peers' handshakes, its own sends, its copies' landings. -/
def payments (c : Dev nD) : sProp 𝕄 :=
  iprop(two (fun k => tok (peer k c) (hs k)) ∗ six (fun i => tok c (snd i)) ∗ six (fun i => tok (tgt i c) (rcv i)))
/-- The payments promised to the device. -/
def promises (c : Dev nD) : sProp 𝕄 :=
  iprop(two (fun k => due c (hs k)) ∗ six (fun i => due c (rcv i)))
/-- The device's fourteen semaphores at zero. -/
def zeros (c : Dev nD) : sProp 𝕄 :=
  iprop(two (fun k => semVal (cell c (hs k)) 0) ∗ six (fun i => semVal (cell c (snd i)) 0) ∗ six (fun i => semVal (cell c (rcv i)) 0))
/-- The six scratch buffers. -/
def scratch (c : Dev nD) : sProp 𝕄 :=
  iprop(held c cc0_scratch0 ∗ held c cc0_scratch1 ∗ held c cc0_scratch2 ∗ held c cc0_scratch3 ∗ held c cc0_scratch4 ∗ held c cc0_scratch5)

/-- What the device holds when the body starts. -/
def before (c : Dev nD) (g : (cc0_stg1_0 : Ref sig .tc).ty.Contents (Elt F)) : sProp 𝕄 :=
  iprop((records X K ∗ levAts L lv) ∗ positions c ∗ payments c ∗ promises c ∗ scratch c ∗ debt c (O₀ c)
    ∗ (((c : Thread nD τ).loc cc0_stg0_0) ↦{fullShare} X c) ∗ (((c : Thread nD τ).loc cc0_stg1_0) ↦{fullShare} g))
/-- What it holds when the body has ended. -/
def after (c : Dev nD) : sProp 𝕄 :=
  iprop(scratch c ∗ zeros c ∗ debt c 0
    ∗ (((c : Thread nD τ).loc cc0_stg0_0) ↦{fullShare} X c) ∗ (((c : Thread nD τ).loc cc0_stg1_0) ↦{fullShare} outOf X c))

omit [FloatOps F] in
/-- The places handshake 0 hands over, in the device's buffers; -/
theorem lands0_of (c : Dev nD) : iprop(part c cc0_scratch0 rSlot1.set ∗ part c cc0_scratch0 rSlot0.set ∗ held c cc0_scratch3) ⊢ lands (F := F) 0 c := by
  unfold lands; rw [land0_eq, land2_eq, land5_eq]
omit [FloatOps F] in
/-- those of handshake 1. -/
theorem lands1_of (c : Dev nD) : iprop(part c cc0_scratch1 rSlot1.set ∗ part c cc0_scratch1 rSlot0.set ∗ held c cc0_scratch2) ⊢ lands (F := F) 1 c := by
  unfold lands; rw [land1_eq, land3_eq, land4_eq]

/-- The program `p` on device `c`, run to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A tile's place holding the tile `l`. -/
def fullAt (M : Memref sig .tc .vmem S128x256 .f32) (l : Vec F S128x256 .f32) (c : Dev nD) : sProp 𝕄 :=
  iprop(∃ f, ⌜M.view.read (Elt F) f = l⌝ ∗ M.view.loc (c : Thread nD τ) ↦[M.view.set]{fullShare} f)

/-- One slot of a landing buffer of two tiles. -/
abbrev slotM (m : Memref sig .tc .vmem S2x128x256 .f32) (o : Fin 3 → Nat) (h : ∀ a, o a + S1x128x256.size a ≤ S2x128x256.size a) :
    Memref sig .tc .vmem S128x256 .f32 :=
  (m.slice (Rect.unit (s := S2x128x256) o S1x128x256.size h) (fun _ => rfl)).squeeze S128x256 squeezes_S1x128x256_S128x256

theorem full0_eq (c : Dev nD) : full X 0 c = fullAt (slotM (Memref.whole cc0_scratch0) ![1, 0, 0] inb_S2x128x256_S1x128x256_1_0_0) (landed X 0 c) c := rfl
theorem full1_eq (c : Dev nD) : full X 1 c = fullAt (slotM (Memref.whole cc0_scratch1) ![1, 0, 0] inb_S2x128x256_S1x128x256_1_0_0) (landed X 1 c) c := rfl
theorem full2_eq (c : Dev nD) : full X 2 c = fullAt (slotM (Memref.whole cc0_scratch0) ![0, 0, 0] inb_S2x128x256_S1x128x256_0_0_0) (landed X 2 c) c := rfl
theorem full3_eq (c : Dev nD) : full X 3 c = fullAt (slotM (Memref.whole cc0_scratch1) ![0, 0, 0] inb_S2x128x256_S1x128x256_0_0_0) (landed X 3 c) c := rfl

/-- Storing the sum of a landed tile and the own one makes copy 4's source, -/
theorem store4 (c : Dev nD) (f : (cc0_scratch4 : Ref sig .tc).ty.Contents (Elt F)) (v : Vec F S1x128x256 .f32)
    (hv : shapeCast S128x256 v shapeCasts_S1x128x256_S128x256 = landed X 0 c) :
    (((Memref.whole cc0_scratch4 : Memref sig .tc .vmem S128x256 .f32).access rTile).loc (c : Thread nD τ) ↦{fullShare}
        ((Memref.whole cc0_scratch4 : Memref sig .tc .vmem S128x256 .f32).access rTile).write (Elt F) f
          (k0_pay1 v (xAt _ (k0_off3_inb c) (X c))) Finset.univ : sProp 𝕄)
      ⊢ srcPts X 4 c := by
  rw [src4_eq, relayA_eq, pay1_eq v _ _ hv]
  exact Entails.of_eq (congrArg (fun z => (((c : Thread nD τ).loc cc0_scratch4) ↦{fullShare} z : sProp 𝕄))
    (Memref.write_access_unit_zero_univ (Elt F) cc0_scratch4 zero2 inb_S128x256_S128x256_0_0 f _))

/-- and copy 5's. -/
theorem store5 (c : Dev nD) (f : (cc0_scratch5 : Ref sig .tc).ty.Contents (Elt F)) (v : Vec F S1x128x256 .f32)
    (hv : shapeCast S128x256 v shapeCasts_S1x128x256_S128x256 = landed X 1 c) :
    (((Memref.whole cc0_scratch5 : Memref sig .tc .vmem S128x256 .f32).access rTile).loc (c : Thread nD τ) ↦{fullShare}
        ((Memref.whole cc0_scratch5 : Memref sig .tc .vmem S128x256 .f32).access rTile).write (Elt F) f
          (k0_pay2 v (xAt _ (k0_off4_inb c) (X c))) Finset.univ : sProp 𝕄)
      ⊢ srcPts X 5 c := by
  rw [src5_eq, relayB_eq, pay2_eq v _ _ hv]
  exact Entails.of_eq (congrArg (fun z => (((c : Thread nD τ).loc cc0_scratch5) ↦{fullShare} z : sProp 𝕄))
    (Memref.write_access_unit_zero_univ (Elt F) cc0_scratch5 zero2 inb_S128x256_S128x256_0_0 f _))

omit [FloatOps F] in
/-- A whole buffer that reads `l` holds `l`. -/
theorem whole_full (c : Dev nD) (b : Ref sig .tc) (l : b.ty.Contents (Elt F)) :
    (iprop(∃ f : Buf (Elt F) ((Memref.whole b).view.loc (c : Thread nD τ)), ⌜(Memref.whole b).view.read (Elt F) f = l⌝
      ∗ (Memref.whole b).view.loc (c : Thread nD τ) ↦[(Memref.whole b).view.set]{fullShare} f) : sProp 𝕄)
      = (((c : Thread nD τ).loc b) ↦{fullShare} l : sProp 𝕄) := by
  rw [show (Memref.whole b).view.set = Finset.univ from View.set_whole _]
  have h1 : (iprop(∃ f : Buf (Elt F) ((Memref.whole b).view.loc (c : Thread nD τ)), ⌜(Memref.whole b).view.read (Elt F) f = l⌝
      ∗ (Memref.whole b).view.loc (c : Thread nD τ) ↦{fullShare} f) : sProp 𝕄) ⊢ (((c : Thread nD τ).loc b) ↦{fullShare} l : sProp 𝕄) := by
    iintro ⟨%f, %hf, H⟩
    have hf' : f = l := hf
    subst hf'
    iexact H
  have h2 : (((c : Thread nD τ).loc b) ↦{fullShare} l : sProp 𝕄) ⊢ (iprop(∃ f : Buf (Elt F) ((Memref.whole b).view.loc (c : Thread nD τ)),
      ⌜(Memref.whole b).view.read (Elt F) f = l⌝ ∗ (Memref.whole b).view.loc (c : Thread nD τ) ↦{fullShare} f) : sProp 𝕄) := by
    iintro H
    iexists l
    isplitr; · ipureintro; rfl
    iexact H
  exact equiv_iff.mp ⟨h1, h2⟩

/-- The two landed sums fill their buffers. -/
theorem full4_eq (c : Dev nD) : full X 4 c = (((c : Thread nD τ).loc cc0_scratch2) ↦{fullShare} landed X 4 c : sProp 𝕄) :=
  whole_full c cc0_scratch2 (landed X 4 c)
theorem full5_eq (c : Dev nD) : full X 5 c = (((c : Thread nD τ).loc cc0_scratch3) ↦{fullShare} landed X 5 c : sProp 𝕄) :=
  whole_full c cc0_scratch3 (landed X 5 c)

/-- Loading a landed tile through its slot of the landing buffer. -/
theorem wp_tile {α : Type} {Q : α → sProp 𝕄} (c : Dev nD) (m : Memref sig .tc .vmem S2x128x256 .f32) (o : Fin 3 → Nat)
    (h : ∀ a, o a + S1x128x256.size a ≤ S2x128x256.size a) (l : Vec F S128x256 .f32)
    {hl : m.view.LoadsAt (Rect.unit (s := S2x128x256) o S1x128x256.size h).toLoadRect}
    {k : Vec F S1x128x256 .f32 → Prog (TpuEff nD τ sig (Elt F) Λ₀ .tc) α} :
    fullAt (slotM m o h) l c
      ⊢ iprop((∀ v, ⌜shapeCast S128x256 v shapeCasts_S1x128x256_S128x256 = l⌝
            -∗ fullAt (slotM m o h) l c
            -∗ wp frame (wpE (defs₀ (F := F)) 𝒱₀ (c : Thread nD τ) none) Set.univ (k v) Q)
          -∗ wp frame (wpE (defs₀ (F := F)) 𝒱₀ (c : Thread nD τ) none) Set.univ
              (.op (.load m (Rect.unit (s := S2x128x256) o S1x128x256.size h).toLoadRect hl) k) Q) := by
  unfold fullAt
  iintro ⟨%f, %hf, H⟩ Hk
  iapply (wp_load_rect 𝒱₀ (c : Thread nD τ) none Set.univ (m := m) (r := Rect.unit (s := S2x128x256) o S1x128x256.size h)
    (S := (slotM m o h).view.set)
    (f := f) (View.set_reshape _ _).ge) $$ H
  iintro H
  ihave Hk := Hk $$ %((m.access (Rect.unit (s := S2x128x256) o S1x128x256.size h)).read (Elt F) f)
  iapply Hk
  · ipureintro; exact hf
  iexists f
  isplitr; · ipureintro; exact hf
  iexact H

/-! ## The body's seven parts at its buffers -/
def part1 : Prog (TpuEff nD τ sig (Elt F) Λ₀ .tc) (Σ' (_ : Dev nD) (_ : BitVec 32) (_ : BitVec 32), BitVec 32) :=
  k0_part1 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0
def part2 (d : Dev nD) (v4 : BitVec 32) (v5 : BitVec 32) : Prog (TpuEff nD τ sig (Elt F) Λ₀ .tc) (PUnit) :=
  k0_part2 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0 d v4 v5
def part3 (d : Dev nD) (v4 : BitVec 32) (v5 : BitVec 32) : Prog (TpuEff nD τ sig (Elt F) Λ₀ .tc) (PUnit) :=
  k0_part3 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0 d v4 v5
def part4 (d : Dev nD) (v4 : BitVec 32) (v5 : BitVec 32) : Prog (TpuEff nD τ sig (Elt F) Λ₀ .tc) (BitVec 32) :=
  k0_part4 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0 d v4 v5
def part5 (d : Dev nD) (v3 : BitVec 32) (v4 : BitVec 32) (v5 : BitVec 32) (u : BitVec 32) : Prog (TpuEff nD τ sig (Elt F) Λ₀ .tc) (PUnit) :=
  k0_part5 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0 d v3 v4 v5 u
def part6 (d : Dev nD) (v3 : BitVec 32) (v4 : BitVec 32) : Prog (TpuEff nD τ sig (Elt F) Λ₀ .tc) (PUnit) :=
  k0_part6 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0 d v3 v4
def part7 (d : Dev nD) : Prog (TpuEff nD τ sig (Elt F) Λ₀ .tc) (PUnit) :=
  k0_part7 (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0 d

/-- The whole body: its parts in order and the last send's wait. -/
theorem body_parts : cc0_body (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0
    = (do
      let ⟨d, v3, v4, v5⟩ ← part1 (F := F)
      part2 d v4 v5
      part3 d v4 v5
      let u ← part4 d v4 v5
      part5 d v3 v4 v5 u
      part6 d v3 v4
      part7 d
      Prog.lift (.waitDma2 (sendS 5) (Memref.whole cc0_scratch3) (Memref.whole cc0_scratch5) (Memref.isWhole_whole _).wordExact (Memref.isWhole_whole _).wordExact)
      pure ⟨⟩) := rfl

set_option maxHeartbeats 1000000 in
/-- Both signals, the wait for peer 0, copy 0. -/
theorem run1 (c : Dev nD) {α : Type} {Q : α → sProp 𝕄} {k : (Σ' (_ : Dev nD) (_ : BitVec 32) (_ : BitVec 32), BitVec 32) → Prog (TpuEff nD τ sig (Elt F) Λ₀ .tc) α} :
    iprop((records X K ∗ levAts L lv) ∗ debt c (O₀ c) ∗ tok (peer 0 c) (hs 0) ∗ tok (peer 1 c) (hs 1) ∗ lands 0 c ∗ lands 1 c ∗ due c (hs 0) ∗ fresh c (hs 0) ∗ srcPts X 0 c ∗ tok c (snd 0) ∗ tok (tgt 0 c) (rcv 0))
      ⊢ iprop((∀ v3 v4 v5, (debt c (oweL c [2, 1, 3, 4, 5]) ∗ semVal (cell c (hs 0)) 0 ∗ land 2 (tgt 2 c) ∗ land 5 (tgt 5 c) ∗ due c (snd 0)) -∗ runs c (k ⟨c, v3, v4, v5⟩) Q)
          -∗ runs c (part1 (F := F)  >>= k) Q) := by
  unfold runs part1
  rw [k0_part1_eq_skeleton]
  unfold k0_part1_skel
  simp only [semSignalWord, semWaitWord, Prog.lift, Prog.bind_op, Prog.bind_ret, Prog.pure_eq_ret, wp_deviceId]
  iintro ⟨⟨#HR, #Hlev⟩, HO, TB, TG, LA, LB, DB, PB, S0, TS0, TR0⟩ Hk
  iapply (wp_ping X K 0 c _ (dev1_eq c) _ (by decide) (O₁ c)) $$ [HO TB LA]
  · isplitr; · iexact HR
    isplitl [HO]; · iexact HO
    isplitl [TB] <;> iassumption
  iintro HO
  iapply (wp_ping X K 1 c _ (dev2_eq c) _ (by decide) (oweL c order)) $$ [HO TG LB]
  · isplitr; · iexact HR
    isplitl [HO]; · iexact HO
    isplitl [TG] <;> iassumption
  iintro HO
  iapply (wp_meet X K 0 c _ (by decide) order (by decide)) $$ [DB HO PB]
  · isplitr; · iexact HR
    isplitr; · iexact Hlev
    isplitl [DB]; · iexact DB
    isplitl [HO] <;> iassumption
  iintro ⟨HO, ZB, Hl⟩
  unfold lands
  icases Hl with ⟨L0, L2, L5⟩
  iapply (wp_copy X K 0 c _ (dev3_eq c) [2, 1, 3, 4, 5]) $$ [S0 L0 HO TS0 TR0]
  · isplitr; · iexact HR
    isplitl [S0]; · iexact S0
    isplitl [L0]; · iexact L0
    isplitl [HO]; · iexact HO
    isplitl [TS0] <;> iassumption
  iintro ⟨DS0, HO⟩
  ihave Hk := Hk $$ %_ %_ %_
  iapply Hk
  isplitl [HO]; · iexact HO
  isplitl [ZB]; · iexact ZB
  isplitl [L2]; · iexact L2
  isplitl [L5]; · iexact L5
  iexact DS0

set_option maxHeartbeats 1000000 in
/-- Copy 2, the wait for peer 1, copy 1. -/
theorem run2 (c : Dev nD) (v4 : BitVec 32) (v5 : BitVec 32) {α : Type} {Q : α → sProp 𝕄} {k : PUnit → Prog (TpuEff nD τ sig (Elt F) Λ₀ .tc) α} :
    iprop((records X K ∗ levAts L lv) ∗ debt c (oweL c [2, 1, 3, 4, 5]) ∗ srcPts X 2 c ∗ land 2 (tgt 2 c) ∗ tok c (snd 2) ∗ tok (tgt 2 c) (rcv 2) ∗ due c (hs 1) ∗ fresh c (hs 1) ∗ srcPts X 1 c ∗ tok c (snd 1) ∗ tok (tgt 1 c) (rcv 1))
      ⊢ iprop(((debt c (oweL c [3, 4, 5]) ∗ semVal (cell c (hs 1)) 0 ∗ land 3 (tgt 3 c) ∗ land 4 (tgt 4 c) ∗ due c (snd 2) ∗ due c (snd 1)) -∗ runs c (k ⟨⟩) Q)
          -∗ runs c (part2 (F := F) c v4 v5 >>= k) Q) := by
  unfold runs part2
  rw [k0_part2_eq_skeleton]
  unfold k0_part2_skel
  simp only [semSignalWord, semWaitWord, Prog.lift, Prog.bind_op, Prog.bind_ret, Prog.pure_eq_ret, wp_deviceId]
  iintro ⟨⟨#HR, #Hlev⟩, HO, S2, L2, TS2, TR2, DG, PG, S1, TS1, TR1⟩ Hk
  iapply (wp_copy X K 2 c _ (dev4_eq c) [1, 3, 4, 5]) $$ [S2 L2 HO TS2 TR2]
  · isplitr; · iexact HR
    isplitl [S2]; · iexact S2
    isplitl [L2]; · iexact L2
    isplitl [HO]; · iexact HO
    isplitl [TS2] <;> iassumption
  iintro ⟨DS2, HO⟩
  iapply (wp_meet X K 1 c _ (by decide) [1, 3, 4, 5] (by decide)) $$ [DG HO PG]
  · isplitr; · iexact HR
    isplitr; · iexact Hlev
    isplitl [DG]; · iexact DG
    isplitl [HO] <;> iassumption
  iintro ⟨HO, ZG, Hl⟩
  unfold lands
  icases Hl with ⟨L1, L3, L4⟩
  iapply (wp_copy X K 1 c _ (dev5_eq c) [3, 4, 5]) $$ [S1 L1 HO TS1 TR1]
  · isplitr; · iexact HR
    isplitl [S1]; · iexact S1
    isplitl [L1]; · iexact L1
    isplitl [HO]; · iexact HO
    isplitl [TS1] <;> iassumption
  iintro ⟨DS1, HO⟩
  iapply Hk
  isplitl [HO]; · iexact HO
  isplitl [ZG]; · iexact ZG
  isplitl [L3]; · iexact L3
  isplitl [L4]; · iexact L4
  isplitl [DS2]; · iexact DS2
  iexact DS1

set_option maxHeartbeats 1000000 in
/-- Copy 3, the landing of copy 0, and the top half to be relayed. -/
theorem run3 (c : Dev nD) (v4 : BitVec 32) (v5 : BitVec 32) {α : Type} {Q : α → sProp 𝕄} {k : PUnit → Prog (TpuEff nD τ sig (Elt F) Λ₀ .tc) α} :
    iprop((records X K ∗ levAts L lv) ∗ debt c (oweL c [3, 4, 5]) ∗ srcPts X 3 c ∗ land 3 (tgt 3 c) ∗ tok c (snd 3) ∗ tok (tgt 3 c) (rcv 3) ∗ due c (rcv 0) ∗ fresh c (rcv 0) ∗ xKeep X c ∗ held c cc0_scratch4)
      ⊢ iprop(((debt c (oweL c [4, 5]) ∗ due c (snd 3) ∗ semVal (cell c (rcv 0)) 0 ∗ full X 0 c ∗ xKeep X c ∗ srcPts X 4 c) -∗ runs c (k ⟨⟩) Q)
          -∗ runs c (part3 (F := F) c v4 v5 >>= k) Q) := by
  unfold runs part3
  rw [k0_part3_eq_skeleton]
  unfold k0_part3_skel
  simp only [semSignalWord, semWaitWord, Prog.lift, Prog.bind_op, Prog.bind_ret, Prog.pure_eq_ret, wp_deviceId]
  iintro ⟨⟨#HR, #Hlev⟩, HO, S3, L3, TS3, TR3, DR0, PR0, Hx, B4⟩ Hk
  iapply (wp_copy X K 3 c _ (dev6_eq c) [4, 5]) $$ [S3 L3 HO TS3 TR3]
  · isplitr; · iexact HR
    isplitl [S3]; · iexact S3
    isplitl [L3]; · iexact L3
    isplitl [HO]; · iexact HO
    isplitl [TS3] <;> iassumption
  iintro ⟨DS3, HO⟩
  iapply (wp_landed X K 0 c [4, 5] (by decide)) $$ [DR0 HO PR0]
  · isplitr; · iexact HR
    isplitr; · iexact Hlev
    isplitl [DR0]; · iexact DR0
    isplitl [HO] <;> iassumption
  iintro ⟨HO, ZR0, L0⟩
  ihave L0 := (Entails.of_eq (full0_eq X c)) $$ L0
  iapply (wp_tile c (Memref.whole cc0_scratch0) ![1, 0, 0] inb_S2x128x256_S1x128x256_1_0_0 (landed X 0 c)) $$ L0
  iintro %v0 %hv0 L0
  ihave L0 := (Entails.of_eq (full0_eq X c).symm) $$ L0
  unfold xKeep
  iapply (wp_load 𝒱₀ (c : Thread nD τ) none Set.univ (m := xM) (Finset.subset_univ _)) $$ Hx; iintro Hx
  unfold held
  icases B4 with ⟨%f4, B4⟩
  iapply (wp_load 𝒱₀ (c : Thread nD τ) none Set.univ (m := Memref.whole cc0_scratch4) (Finset.subset_univ _)) $$ B4; iintro B4
  iapply (wp_store 𝒱₀ (c : Thread nD τ) none Set.univ (m := Memref.whole cc0_scratch4) (r := rTile) (Mk := Finset.univ) (Finset.subset_univ _)) $$ B4
  iintro S4
  ihave S4 := (store4 X c _ _ hv0) $$ S4
  iapply Hk
  isplitl [HO]; · iexact HO
  isplitl [DS3]; · iexact DS3
  isplitl [ZR0]; · iexact ZR0
  isplitl [L0]; · iexact L0
  isplitl [Hx]; · iexact Hx
  iexact S4

set_option maxHeartbeats 1000000 in
/-- Copy 4, the landing of copy 1, the bottom half to be relayed, copy 5. -/
theorem run4 (c : Dev nD) (v4 : BitVec 32) (v5 : BitVec 32) {α : Type} {Q : α → sProp 𝕄} {k : BitVec 32 → Prog (TpuEff nD τ sig (Elt F) Λ₀ .tc) α} :
    iprop((records X K ∗ levAts L lv) ∗ debt c (oweL c [4, 5]) ∗ srcPts X 4 c ∗ land 4 (tgt 4 c) ∗ tok c (snd 4) ∗ tok (tgt 4 c) (rcv 4) ∗ due c (rcv 1) ∗ fresh c (rcv 1) ∗ xKeep X c ∗ held c cc0_scratch5 ∗ land 5 (tgt 5 c) ∗ tok c (snd 5) ∗ tok (tgt 5 c) (rcv 5))
      ⊢ iprop((∀ u, (debt c (oweL c []) ∗ due c (snd 4) ∗ due c (snd 5) ∗ semVal (cell c (rcv 1)) 0 ∗ full X 1 c ∗ xKeep X c) -∗ runs c (k u) Q)
          -∗ runs c (part4 (F := F) c v4 v5 >>= k) Q) := by
  unfold runs part4
  rw [k0_part4_eq_skeleton]
  unfold k0_part4_skel
  simp only [semSignalWord, semWaitWord, Prog.lift, Prog.bind_op, Prog.bind_ret, Prog.pure_eq_ret, wp_deviceId]
  iintro ⟨⟨#HR, #Hlev⟩, HO, S4, L4, TS4, TR4, DR1, PR1, Hx, B5, L5, TS5, TR5⟩ Hk
  iapply (wp_copy X K 4 c _ (dev7_eq c) [5]) $$ [S4 L4 HO TS4 TR4]
  · isplitr; · iexact HR
    isplitl [S4]; · iexact S4
    isplitl [L4]; · iexact L4
    isplitl [HO]; · iexact HO
    isplitl [TS4] <;> iassumption
  iintro ⟨DS4, HO⟩
  iapply (wp_landed X K 1 c [5] (by decide)) $$ [DR1 HO PR1]
  · isplitr; · iexact HR
    isplitr; · iexact Hlev
    isplitl [DR1]; · iexact DR1
    isplitl [HO] <;> iassumption
  iintro ⟨HO, ZR1, L1⟩
  ihave L1 := (Entails.of_eq (full1_eq X c)) $$ L1
  iapply (wp_tile c (Memref.whole cc0_scratch1) ![1, 0, 0] inb_S2x128x256_S1x128x256_1_0_0 (landed X 1 c)) $$ L1
  iintro %v1 %hv1 L1
  ihave L1 := (Entails.of_eq (full1_eq X c).symm) $$ L1
  unfold xKeep
  iapply (wp_load 𝒱₀ (c : Thread nD τ) none Set.univ (m := xM) (Finset.subset_univ _)) $$ Hx; iintro Hx
  unfold held
  icases B5 with ⟨%f5, B5⟩
  iapply (wp_load 𝒱₀ (c : Thread nD τ) none Set.univ (m := Memref.whole cc0_scratch5) (Finset.subset_univ _)) $$ B5; iintro B5
  iapply (wp_store 𝒱₀ (c : Thread nD τ) none Set.univ (m := Memref.whole cc0_scratch5) (r := rTile) (Mk := Finset.univ) (Finset.subset_univ _)) $$ B5
  iintro S5
  ihave S5 := (store5 X c _ _ hv1) $$ S5
  iapply (wp_copy X K 5 c _ (dev8_eq c) []) $$ [S5 L5 HO TS5 TR5]
  · isplitr; · iexact HR
    isplitl [S5]; · iexact S5
    isplitl [L5]; · iexact L5
    isplitl [HO]; · iexact HO
    isplitl [TS5] <;> iassumption
  iintro ⟨DS5, HO⟩
  ihave Hk := Hk $$ %_
  iapply Hk
  isplitl [HO]; · iexact HO
  isplitl [DS4]; · iexact DS4
  isplitl [DS5]; · iexact DS5
  isplitl [ZR1]; · iexact ZR1
  isplitl [L1]; · iexact L1
  iexact Hx

set_option maxHeartbeats 1000000 in
/-- The landings of copies 2 and 4, and the top half of the result. -/
theorem run5 (c : Dev nD) (g : (cc0_stg1_0 : Ref sig .tc).ty.Contents (Elt F)) (v3 : BitVec 32) (v4 : BitVec 32) (v5 : BitVec 32) (u : BitVec 32) {α : Type} {Q : α → sProp 𝕄} {k : PUnit → Prog (TpuEff nD τ sig (Elt F) Λ₀ .tc) α} :
    iprop((records X K ∗ levAts L lv) ∗ debt c (oweL c []) ∗ due c (rcv 2) ∗ fresh c (rcv 2) ∗ due c (rcv 4) ∗ fresh c (rcv 4) ∗ xKeep X c ∗ (((c : Thread nD τ).loc cc0_stg1_0) ↦{fullShare} g))
      ⊢ iprop(((debt c (oweL c []) ∗ semVal (cell c (rcv 2)) 0 ∗ semVal (cell c (rcv 4)) 0 ∗ full X 2 c ∗ full X 4 c ∗ xKeep X c ∗ (((c : Thread nD τ).loc cc0_stg1_0) ↦{fullShare} (((Memref.whole cc0_stg1_0 : Memref sig .tc .vmem S256x256 .f32).access rTop : View sig .tc _ _ _).write (Elt F) g (topOf X c) Finset.univ))) -∗ runs c (k ⟨⟩) Q)
          -∗ runs c (part5 (F := F) c v3 v4 v5 u >>= k) Q) := by
  unfold runs part5
  rw [k0_part5_eq_skeleton]
  unfold k0_part5_skel
  simp only [semSignalWord, semWaitWord, Prog.lift, Prog.bind_op, Prog.bind_ret, Prog.pure_eq_ret, wp_deviceId]
  iintro ⟨⟨#HR, #Hlev⟩, HO, DR2, PR2, DR4, PR4, Hx, Hy⟩ Hk
  iapply (wp_landed X K 2 c [] (by decide)) $$ [DR2 HO PR2]
  · isplitr; · iexact HR
    isplitr; · iexact Hlev
    isplitl [DR2]; · iexact DR2
    isplitl [HO] <;> iassumption
  iintro ⟨HO, ZR2, L2⟩
  iapply (wp_landed X K 4 c [] (by decide)) $$ [DR4 HO PR4]
  · isplitr; · iexact HR
    isplitr; · iexact Hlev
    isplitl [DR4]; · iexact DR4
    isplitl [HO] <;> iassumption
  iintro ⟨HO, ZR4, L4⟩
  unfold xKeep
  iapply (wp_load 𝒱₀ (c : Thread nD τ) none Set.univ (m := xM) (Finset.subset_univ _)) $$ Hx; iintro Hx
  ihave L2 := (Entails.of_eq (full2_eq X c)) $$ L2
  iapply (wp_tile c (Memref.whole cc0_scratch0) ![0, 0, 0] inb_S2x128x256_S1x128x256_0_0_0 (landed X 2 c)) $$ L2
  iintro %v2 %hv2 L2
  ihave L2 := (Entails.of_eq (full2_eq X c).symm) $$ L2
  ihave L4 := (Entails.of_eq (full4_eq X c)) $$ L4
  iapply (wp_load 𝒱₀ (c : Thread nD τ) none Set.univ (m := Memref.whole cc0_scratch2) (Finset.subset_univ _)) $$ L4; iintro L4
  ihave L4 := (Entails.of_eq (full4_eq X c).symm) $$ L4
  rw [show (Memref.whole cc0_scratch2 : Memref sig .tc .vmem S128x256 .f32).view.readAt (Elt F) rTile.toLoadRect (landed X 4 c) = landed X 4 c
    from Memref.readAt_unit_zero (Elt F) cc0_scratch2 zero2 _ _]
  iapply (wp_load 𝒱₀ (c : Thread nD τ) none Set.univ (m := Memref.whole cc0_stg1_0) (Finset.subset_univ _)) $$ Hy; iintro Hy
  iapply (wp_store 𝒱₀ (c : Thread nD τ) none Set.univ (m := Memref.whole cc0_stg1_0) (r := rTop) (Mk := Finset.univ) (Finset.subset_univ _)) $$ Hy
  iintro Hy
  rw [pay3_eq _ _ _ _ hv2]
  iapply Hk
  isplitl [HO]; · iexact HO
  isplitl [ZR2]; · iexact ZR2
  isplitl [ZR4]; · iexact ZR4
  isplitl [L2]; · iexact L2
  isplitl [L4]; · iexact L4
  isplitl [Hx]; · iexact Hx
  iexact Hy

set_option maxHeartbeats 1000000 in
/-- The landings of copies 3 and 5, the bottom half of the result, and the end of send 0. -/
theorem run6 (c : Dev nD) (g : (cc0_stg1_0 : Ref sig .tc).ty.Contents (Elt F)) (v3 : BitVec 32) (v4 : BitVec 32) {α : Type} {Q : α → sProp 𝕄} {k : PUnit → Prog (TpuEff nD τ sig (Elt F) Λ₀ .tc) α} :
    iprop((records X K ∗ levAts L lv) ∗ debt c (oweL c []) ∗ due c (rcv 3) ∗ fresh c (rcv 3) ∗ due c (rcv 5) ∗ fresh c (rcv 5) ∗ xKeep X c ∗ due c (snd 0) ∗ fresh c (snd 0) ∗ (((c : Thread nD τ).loc cc0_stg1_0) ↦{fullShare} g))
      ⊢ iprop(((debt c (oweL c []) ∗ semVal (cell c (rcv 3)) 0 ∗ semVal (cell c (rcv 5)) 0 ∗ full X 3 c ∗ full X 5 c ∗ xKeep X c ∗ semVal (cell c (snd 0)) 0 ∗ srcPts X 0 c ∗ (((c : Thread nD τ).loc cc0_stg1_0) ↦{fullShare} (((Memref.whole cc0_stg1_0 : Memref sig .tc .vmem S256x256 .f32).access rBot : View sig .tc _ _ _).write (Elt F) g (botOf X c) Finset.univ))) -∗ runs c (k ⟨⟩) Q)
          -∗ runs c (part6 (F := F) c v3 v4 >>= k) Q) := by
  unfold runs part6
  rw [k0_part6_eq_skeleton]
  unfold k0_part6_skel
  simp only [semSignalWord, semWaitWord, Prog.lift, Prog.bind_op, Prog.bind_ret, Prog.pure_eq_ret, wp_deviceId]
  iintro ⟨⟨#HR, #Hlev⟩, HO, DR3, PR3, DR5, PR5, Hx, DS0, PS0, Hy⟩ Hk
  iapply (wp_landed X K 3 c [] (by decide)) $$ [DR3 HO PR3]
  · isplitr; · iexact HR
    isplitr; · iexact Hlev
    isplitl [DR3]; · iexact DR3
    isplitl [HO] <;> iassumption
  iintro ⟨HO, ZR3, L3⟩
  iapply (wp_landed X K 5 c [] (by decide)) $$ [DR5 HO PR5]
  · isplitr; · iexact HR
    isplitr; · iexact Hlev
    isplitl [DR5]; · iexact DR5
    isplitl [HO] <;> iassumption
  iintro ⟨HO, ZR5, L5⟩
  unfold xKeep
  iapply (wp_load 𝒱₀ (c : Thread nD τ) none Set.univ (m := xM) (Finset.subset_univ _)) $$ Hx; iintro Hx
  ihave L3 := (Entails.of_eq (full3_eq X c)) $$ L3
  iapply (wp_tile c (Memref.whole cc0_scratch1) ![0, 0, 0] inb_S2x128x256_S1x128x256_0_0_0 (landed X 3 c)) $$ L3
  iintro %v3 %hv3 L3
  ihave L3 := (Entails.of_eq (full3_eq X c).symm) $$ L3
  ihave L5 := (Entails.of_eq (full5_eq X c)) $$ L5
  iapply (wp_load 𝒱₀ (c : Thread nD τ) none Set.univ (m := Memref.whole cc0_scratch3) (Finset.subset_univ _)) $$ L5; iintro L5
  ihave L5 := (Entails.of_eq (full5_eq X c).symm) $$ L5
  rw [show (Memref.whole cc0_scratch3 : Memref sig .tc .vmem S128x256 .f32).view.readAt (Elt F) rTile.toLoadRect (landed X 5 c) = landed X 5 c
    from Memref.readAt_unit_zero (Elt F) cc0_scratch3 zero2 _ _]
  iapply (wp_load 𝒱₀ (c : Thread nD τ) none Set.univ (m := Memref.whole cc0_stg1_0) (Finset.subset_univ _)) $$ Hy; iintro Hy
  iapply (wp_store 𝒱₀ (c : Thread nD τ) none Set.univ (m := Memref.whole cc0_stg1_0) (r := rBot) (Mk := Finset.univ) (Finset.subset_univ _)) $$ Hy
  iintro Hy
  rw [pay4_eq _ _ _ _ hv3]
  iapply (wp_gone X K 0 c [] (by decide)) $$ [DS0 HO PS0]
  · isplitr; · iexact HR
    isplitr; · iexact Hlev
    isplitl [DS0]; · iexact DS0
    isplitl [HO] <;> iassumption
  iintro ⟨HO, ZS0, S0⟩
  iapply Hk
  isplitl [HO]; · iexact HO
  isplitl [ZR3]; · iexact ZR3
  isplitl [ZR5]; · iexact ZR5
  isplitl [L3]; · iexact L3
  isplitl [L5]; · iexact L5
  isplitl [Hx]; · iexact Hx
  isplitl [ZS0]; · iexact ZS0
  isplitl [S0]; · iexact S0
  iexact Hy

set_option maxHeartbeats 1000000 in
/-- The ends of sends 1 to 4. -/
theorem run7 (c : Dev nD) {α : Type} {Q : α → sProp 𝕄} {k : PUnit → Prog (TpuEff nD τ sig (Elt F) Λ₀ .tc) α} :
    iprop((records X K ∗ levAts L lv) ∗ debt c (oweL c []) ∗ due c (snd 1) ∗ fresh c (snd 1) ∗ due c (snd 2) ∗ fresh c (snd 2) ∗ due c (snd 3) ∗ fresh c (snd 3) ∗ due c (snd 4) ∗ fresh c (snd 4))
      ⊢ iprop(((debt c (oweL c []) ∗ semVal (cell c (snd 1)) 0 ∗ srcPts X 1 c ∗ semVal (cell c (snd 2)) 0 ∗ srcPts X 2 c ∗ semVal (cell c (snd 3)) 0 ∗ srcPts X 3 c ∗ semVal (cell c (snd 4)) 0 ∗ srcPts X 4 c) -∗ runs c (k ⟨⟩) Q)
          -∗ runs c (part7 (F := F) c >>= k) Q) := by
  unfold runs part7
  rw [k0_part7_eq_skeleton]
  unfold k0_part7_skel
  simp only [semSignalWord, semWaitWord, Prog.lift, Prog.bind_op, Prog.bind_ret, Prog.pure_eq_ret, wp_deviceId]
  iintro ⟨⟨#HR, #Hlev⟩, HO, DS1, PS1, DS2, PS2, DS3, PS3, DS4, PS4⟩ Hk
  iapply (wp_gone X K 1 c [] (by decide)) $$ [DS1 HO PS1]
  · isplitr; · iexact HR
    isplitr; · iexact Hlev
    isplitl [DS1]; · iexact DS1
    isplitl [HO] <;> iassumption
  iintro ⟨HO, ZS1, S1⟩
  iapply (wp_gone X K 2 c [] (by decide)) $$ [DS2 HO PS2]
  · isplitr; · iexact HR
    isplitr; · iexact Hlev
    isplitl [DS2]; · iexact DS2
    isplitl [HO] <;> iassumption
  iintro ⟨HO, ZS2, S2⟩
  iapply (wp_gone X K 3 c [] (by decide)) $$ [DS3 HO PS3]
  · isplitr; · iexact HR
    isplitr; · iexact Hlev
    isplitl [DS3]; · iexact DS3
    isplitl [HO] <;> iassumption
  iintro ⟨HO, ZS3, S3⟩
  iapply (wp_gone X K 4 c [] (by decide)) $$ [DS4 HO PS4]
  · isplitr; · iexact HR
    isplitr; · iexact Hlev
    isplitl [DS4]; · iexact DS4
    isplitl [HO] <;> iassumption
  iintro ⟨HO, ZS4, S4⟩
  iapply Hk
  isplitl [HO]; · iexact HO
  isplitl [ZS1]; · iexact ZS1
  isplitl [S1]; · iexact S1
  isplitl [ZS2]; · iexact ZS2
  isplitl [S2]; · iexact S2
  isplitl [ZS3]; · iexact ZS3
  isplitl [S3]; · iexact S3
  isplitl [ZS4]; · iexact ZS4
  iexact S4

/-- The whole body: from what the device holds at its start to what it holds at its end. -/
theorem body_run (c : Dev nD) (g : (cc0_stg1_0 : Ref sig .tc).ty.Contents (Elt F)) (Q : PUnit → sProp 𝕄) :
    iprop(before X K c g ∗ (after X c -∗ Q ⟨⟩))
      ⊢ runs c (cc0_body (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scoped0) Q := by
  rw [body_parts]
  unfold before positions payments promises scratch
  iintro ⟨⟨#HKn, ⟨⟨PB, PG⟩, ⟨PS0, PS1, PS2, PS3, PS4, PS5⟩, ⟨PR0, PR1, PR2, PR3, PR4, PR5⟩⟩,
    ⟨⟨TB, TG⟩, ⟨TS0, TS1, TS2, TS3, TS4, TS5⟩, ⟨TR0, TR1, TR2, TR3, TR4, TR5⟩⟩,
    ⟨⟨DB, DG⟩, ⟨DR0, DR1, DR2, DR3, DR4, DR5⟩⟩, ⟨B0, B1, B2, B3, B4, B5⟩, HO, Hx, Hy⟩, Hk⟩
  ihave Hx := (x_apart X c) $$ Hx
  icases Hx with ⟨Hx, ⟨S0, S1, S2, S3⟩, Hrest⟩
  ihave B0 := (held_apart c cc0_scratch0 rSlot1.set rSlot0.set slots_disjoint) $$ B0
  icases B0 with ⟨L0, L2, E0⟩
  ihave B1 := (held_apart c cc0_scratch1 rSlot1.set rSlot0.set slots_disjoint) $$ B1
  icases B1 with ⟨L1, L3, E1⟩
  ihave LA := (lands0_of c) $$ [L0 L2 B3]
  · isplitl [L0]; · iexact L0
    isplitl [L2] <;> iassumption
  ihave LB := (lands1_of c) $$ [L1 L3 B2]
  · isplitl [L1]; · iexact L1
    isplitl [L3] <;> iassumption
  iapply (run1 X K c) $$ [HO TB TG LA LB DB PB S0 TS0 TR0]
  · isplitr; · iexact HKn
    isplitl [HO]; · iexact HO
    isplitl [TB]; · iexact TB
    isplitl [TG]; · iexact TG
    isplitl [LA]; · iexact LA
    isplitl [LB]; · iexact LB
    isplitl [DB]; · iexact DB
    isplitl [PB]; · iexact PB
    isplitl [S0]; · iexact S0
    isplitl [TS0]; · iexact TS0
    iexact TR0
  iintro %v3 %v4 %v5 ⟨HO, ZB, L2, L5, DS0⟩
  iapply (run2 X K c v4 v5) $$ [HO S2 L2 TS2 TR2 DG PG S1 TS1 TR1]
  · isplitr; · iexact HKn
    isplitl [HO]; · iexact HO
    isplitl [S2]; · iexact S2
    isplitl [L2]; · iexact L2
    isplitl [TS2]; · iexact TS2
    isplitl [TR2]; · iexact TR2
    isplitl [DG]; · iexact DG
    isplitl [PG]; · iexact PG
    isplitl [S1]; · iexact S1
    isplitl [TS1]; · iexact TS1
    iexact TR1
  iintro ⟨HO, ZG, L3, L4, DS2, DS1⟩
  iapply (run3 X K c v4 v5) $$ [HO S3 L3 TS3 TR3 DR0 PR0 Hx B4]
  · isplitr; · iexact HKn
    isplitl [HO]; · iexact HO
    isplitl [S3]; · iexact S3
    isplitl [L3]; · iexact L3
    isplitl [TS3]; · iexact TS3
    isplitl [TR3]; · iexact TR3
    isplitl [DR0]; · iexact DR0
    isplitl [PR0]; · iexact PR0
    isplitl [Hx]; · iexact Hx
    iexact B4
  iintro ⟨HO, DS3, ZR0, M0, Hx, S4⟩
  iapply (run4 X K c v4 v5) $$ [HO S4 L4 TS4 TR4 DR1 PR1 Hx B5 L5 TS5 TR5]
  · isplitr; · iexact HKn
    isplitl [HO]; · iexact HO
    isplitl [S4]; · iexact S4
    isplitl [L4]; · iexact L4
    isplitl [TS4]; · iexact TS4
    isplitl [TR4]; · iexact TR4
    isplitl [DR1]; · iexact DR1
    isplitl [PR1]; · iexact PR1
    isplitl [Hx]; · iexact Hx
    isplitl [B5]; · iexact B5
    isplitl [L5]; · iexact L5
    isplitl [TS5]; · iexact TS5
    iexact TR5
  iintro %u ⟨HO, DS4, DS5, ZR1, M1, Hx⟩
  iapply (run5 X K c g v3 v4 v5 u) $$ [HO DR2 PR2 DR4 PR4 Hx Hy]
  · isplitr; · iexact HKn
    isplitl [HO]; · iexact HO
    isplitl [DR2]; · iexact DR2
    isplitl [PR2]; · iexact PR2
    isplitl [DR4]; · iexact DR4
    isplitl [PR4]; · iexact PR4
    isplitl [Hx]; · iexact Hx
    iexact Hy
  iintro ⟨HO, ZR2, ZR4, M2, M4, Hx, Hy⟩
  iapply (run6 X K c _ v3 v4) $$ [HO DR3 PR3 DR5 PR5 Hx DS0 PS0 Hy]
  · isplitr; · iexact HKn
    isplitl [HO]; · iexact HO
    isplitl [DR3]; · iexact DR3
    isplitl [PR3]; · iexact PR3
    isplitl [DR5]; · iexact DR5
    isplitl [PR5]; · iexact PR5
    isplitl [Hx]; · iexact Hx
    isplitl [DS0]; · iexact DS0
    isplitl [PS0]; · iexact PS0
    iexact Hy
  iintro ⟨HO, ZR3, ZR5, M3, M5, Hx, ZS0, S0, Hy⟩
  iapply (run7 X K c) $$ [HO DS1 PS1 DS2 PS2 DS3 PS3 DS4 PS4]
  · isplitr; · iexact HKn
    isplitl [HO]; · iexact HO
    isplitl [DS1]; · iexact DS1
    isplitl [PS1]; · iexact PS1
    isplitl [DS2]; · iexact DS2
    isplitl [PS2]; · iexact PS2
    isplitl [DS3]; · iexact DS3
    isplitl [PS3]; · iexact PS3
    isplitl [DS4]; · iexact DS4
    iexact PS4
  iintro ⟨HO, ZS1, S1, ZS2, S2, ZS3, S3, ZS4, S4⟩
  simp only [Prog.lift, Prog.bind_op, Prog.bind_ret, Prog.pure_eq_ret]
  icases HKn with ⟨#HR, #Hlev⟩
  iapply (wp_gone X K 5 c [] (by decide)) $$ [DS5 HO PS5]
  · isplitr; · iexact HR
    isplitr; · iexact Hlev
    isplitl [DS5]; · iexact DS5
    isplitl [HO] <;> iassumption
  iintro ⟨HO, ZS5, S5⟩
  rw [wp_ret]; imodintro
  iapply Hk
  unfold after scratch zeros
  ihave L0 := ((full_land X 0 c).trans (Entails.of_eq (land0_eq c))) $$ M0
  ihave L1 := ((full_land X 1 c).trans (Entails.of_eq (land1_eq c))) $$ M1
  ihave L2 := ((full_land X 2 c).trans (Entails.of_eq (land2_eq c))) $$ M2
  ihave L3 := ((full_land X 3 c).trans (Entails.of_eq (land3_eq c))) $$ M3
  ihave L4 := ((full_land X 4 c).trans (Entails.of_eq (land4_eq c))) $$ M4
  ihave L5 := ((full_land X 5 c).trans (Entails.of_eq (land5_eq c))) $$ M5
  ihave S4 := (Entails.of_eq (src4_eq X c)) $$ S4
  ihave S5 := (Entails.of_eq (src5_eq X c)) $$ S5
  ihave Hy := (Entails.of_eq (congrArg (fun z => (((c : Thread nD τ).loc cc0_stg1_0) ↦{fullShare} z : sProp 𝕄)) (store_halves g (topOf X c) (botOf X c)))) $$ Hy
  isplitl [L0 L1 L2 L3 L4 L5 E0 E1 S4 S5]
  · isplitl [L0 L2 E0]
    · iapply (held_together c cc0_scratch0 rSlot1.set rSlot0.set slots_disjoint)
      isplitl [L0]; · iexact L0
      isplitl [L2] <;> iassumption
    isplitl [L1 L3 E1]
    · iapply (held_together c cc0_scratch1 rSlot1.set rSlot0.set slots_disjoint)
      isplitl [L1]; · iexact L1
      isplitl [L3] <;> iassumption
    isplitl [L4]; · iexact L4
    isplitl [L5]; · iexact L5
    unfold held
    isplitl [S4]; · iexists _; iexact S4
    iexists _; iexact S5
  isplitl [ZB ZG ZS0 ZS1 ZS2 ZS3 ZS4 ZS5 ZR0 ZR1 ZR2 ZR3 ZR4 ZR5]
  · isplitl [ZB ZG]; · isplitl [ZB] <;> iassumption
    isplitl [ZS0 ZS1 ZS2 ZS3 ZS4 ZS5]
    · isplitl [ZS0]; · iexact ZS0
      isplitl [ZS1]; · iexact ZS1
      isplitl [ZS2]; · iexact ZS2
      isplitl [ZS3]; · iexact ZS3
      isplitl [ZS4] <;> iassumption
    isplitl [ZR0]; · iexact ZR0
    isplitl [ZR1]; · iexact ZR1
    isplitl [ZR2]; · iexact ZR2
    isplitl [ZR3]; · iexact ZR3
    isplitl [ZR4] <;> iassumption
  isplitl [HO]; · iexact HO
  isplitl [Hx Hrest S0 S1 S2 S3]
  · iapply (x_together X c)
    isplitl [Hx]; · iexact Hx
    isplitl [S0 S1 S2 S3]
    · isplitl [S0]; · iexact S0
      isplitl [S1]; · iexact S1
      isplitl [S2] <;> iassumption
    iexact Hrest
  iexact Hy

end Cert.Exchange
-- ==== Proof.Deal.lean ====
/-
# What the launch deals each device

Before the kernels start every cell of the exchange is opened at once: its invariant is allocated, and each device gets its
positions, the payments it will make and the promise of those it will receive.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Families over the parts -/

omit [FloatOps F] in
theorem two_eq (Φ : Fin 2 → sProp 𝕄) : bigSep Finset.univ Φ = two Φ := bigSep_univ_eq_bigSepL [0, 1] (by decide) (by decide) Φ
omit [FloatOps F] in
theorem six_eq (Φ : Fin 6 → sProp 𝕄) : bigSep Finset.univ Φ = six Φ := bigSep_univ_eq_bigSepL [0, 1, 2, 3, 4, 5] (by decide) (by decide) Φ
omit [FloatOps F] in
/-- A family over the parts, part by part. -/
theorem parts_eq (Φ : Role → sProp 𝕄) :
    bigSep Finset.univ Φ = iprop(two (fun k => Φ (hs k)) ∗ six (fun i => Φ (snd i)) ∗ six (fun i => Φ (rcv i))) := by
  rw [bigSep_univ_sum, bigSep_univ_sum, two_eq, six_eq, six_eq]; rfl

omit [FloatOps F] in
theorem positions_eq (c : Dev nD) : positions (F := F) c = bigSep Finset.univ fun r => fresh c r := (parts_eq _).symm
omit [FloatOps F] in
theorem zeros_eq (c : Dev nD) : zeros (F := F) c = bigSep Finset.univ fun r => semVal (cell c r) 0 :=
  (parts_eq fun r => semVal (cell c r) 0).symm

/-- Who makes the payment into a cell of part `r`: the peer a handshake or a landing comes from, the device itself for a send. -/
def payer : Role → (Dev nD ≃ Dev nD)
  | .inl k => flip k
  | .inr (.inl _) => Equiv.refl _
  | .inr (.inr i) => flip (ax i)

omit [FloatOps F] in
theorem payments_eq (c : Dev nD) : payments (F := F) c = bigSep Finset.univ fun r => tok (payer r c) r :=
  (parts_eq fun r => tok (payer r c) r).symm

omit [FloatOps F] in
/-- Every cell's payment goes to its payer. -/
theorem tokens_dealt : (bigSep Finset.univ fun c : Dev nD => bigSep Finset.univ fun r : Role => tok c r : sProp 𝕄)
    = bigSep Finset.univ fun c : Dev nD => payments c := by
  rw [bigSep_univ_comm, bigSep_congr (s := Finset.univ) (fun (r : Role) _ => bigSep_univ_equiv (payer r) (fun c : Dev nD => (tok c r : sProp 𝕄))),
    bigSep_univ_comm]
  exact bigSep_congr fun c _ => (payments_eq c).symm

/-! ## The cells opened -/

/-- All cells of the exchange, -/
def allCells : Finset (GSem nD τ sig) :=
  Finset.univ.map ⟨fun x : Dev nD × Role => cell x.1 x.2, fun _ _ h => Prod.ext (cell_inj h).1 (cell_inj h).2⟩
/-- and the one payment of each. -/
def allToks : Finset (GSem nD τ sig × ℕ × Unit) :=
  Finset.univ.map ⟨fun x : Dev nD × Role => (cell x.1 x.2, 0, ()), fun _ _ h =>
    Prod.ext (cell_inj (congrArg Prod.fst h)).1 (cell_inj (congrArg Prod.fst h)).2⟩

/-- The bookkeeping the launch starts with. -/
def u₀ : UU := (initOf (Pipeline.cells cfgs cellOf_inj) (Pipeline.launchToks cfgs cellOf_inj), initOf allCells allToks)

/-- What the start deals device `c` of its own cells: their rounds unopened, its positions, their begun rounds, their payments. -/
def dealt (c : Dev nD) : sProp 𝕄 :=
  iprop((bigSep Finset.univ fun r : Role => roundState ER (sched X) (cell c r) 0) ∗ (bigSep Finset.univ fun r : Role => fresh c r)
    ∗ (bigSep Finset.univ fun r : Role => reached ER (cell c r) 0) ∗ bigSep Finset.univ fun r : Role => tok c r)

/-- What the device has of the exchange once all cells are open. -/
def ready (c : Dev nD) : sProp 𝕄 := iprop(∃ K, records X K ∗ positions c ∗ payments c)

omit [FloatOps F] in
theorem over_cells (Φ : GSem nD τ sig → sProp 𝕄) :
    bigSep allCells Φ = bigSep Finset.univ fun c : Dev nD => bigSep Finset.univ fun r : Role => Φ (cell c r) := by
  unfold allCells; rw [bigSep_map, bigSep_univ_prod]; rfl
omit [FloatOps F] in
theorem over_toks : bigSep allToks (fun x => (dutyTok ER x.1 x.2.1 x.2.2 : sProp 𝕄))
    = bigSep Finset.univ fun c : Dev nD => bigSep Finset.univ fun r : Role => tok c r := by
  unfold allToks; rw [bigSep_map, bigSep_univ_prod]; rfl

theorem fund_all : BI.own (ER (initOf allCells allToks)) ⊢ (|==> bigSep Finset.univ (dealt X) : sProp 𝕄) := by
  iintro H
  imod (Rounds.fund ER (sched X) allCells allToks) $$ H with ⟨H1, H2, H3, H4⟩
  imodintro
  unfold dealt; simp only [bigSep_sep']
  ihave H1 := (Entails.of_eq (over_cells fun g => roundState ER (sched X) g 0)) $$ H1
  ihave H2 := (Entails.of_eq (over_cells fun g => reached ER g 0)) $$ H2
  ihave H3 := (Entails.of_eq (over_cells fun g => atPos ER g 0 ∅ 0)) $$ H3
  ihave H4 := (Entails.of_eq over_toks) $$ H4
  isplitl [H1]; · iexact H1
  isplitl [H3]; · iexact H3
  isplitl [H2]; · iexact H2
  iexact H4

/-- The semaphores the kernel itself declares: the gate, the sends', the landings'. -/
def osem : Fin 1 ⊕ Fin 6 ⊕ Fin 6 → SemLoc sig := fun x => csem (x.map (fun _ => 1) id)
theorem ownSemFacts : Pipeline.OwnSemFacts cfg0.spec osem := by decide +kernel

omit [FloatOps F] in
theorem own_eq (c : Dev nD) : (Pipeline.ownSems0 (Ix := Unit) (Name := ℕ) (U := UU) (Lvl := ℕ) (Val := Elt F) (τ := τ) osem c : sProp 𝕄)
    = iprop(semVal (cell c (hs 1)) 0 ∗ six (fun i => semVal (cell c (snd i)) 0) ∗ six (fun i => semVal (cell c (rcv i)) 0)) := by
  unfold Pipeline.ownSems0
  rw [bigSep_univ_sum, bigSep_univ_sum, six_eq, six_eq, bigSep_univ_eq_bigSepL [0] (by decide) (by decide)]; rfl
omit [FloatOps F] in
/-- The runtime's barrier is the one semaphore outside the kernel's scope. -/
theorem unscoped_eq (c : Dev nD) : (unscopedSems0 c : sProp 𝕄) = semVal (cell c (hs 0)) 0 := by
  unfold unscopedSems0; rw [bigSep_eq_bigSepL_of_eq [csem (hs 0)] (by decide +kernel) (by decide +kernel)]; rfl
omit [FloatOps F] in
theorem regroup (P Q R : sProp 𝕄) : iprop((P ∗ Q) ∗ R) = iprop(P ∗ Q ∗ R) := by
  have h1 : iprop((P ∗ Q) ∗ R) ⊢ iprop(P ∗ Q ∗ R) := Laws.sep_assoc.1
  have h2 : iprop(P ∗ Q ∗ R) ⊢ iprop((P ∗ Q) ∗ R) := Laws.sep_assoc.2
  exact equiv_iff.mp ⟨h1, h2⟩
omit [FloatOps F] in
/-- Together the fourteen. -/
theorem sems_eq (c : Dev nD) :
    iprop(unscopedSems0 c ∗ Pipeline.ownSems0 (Ix := Unit) (Name := ℕ) (U := UU) (Lvl := ℕ) (Val := Elt F) (τ := τ) osem c) = (zeros c : sProp 𝕄) := by
  rw [own_eq, unscoped_eq]
  unfold zeros
  exact (regroup _ _ _).symm

/-- The cells of one device opened. -/
theorem open_cells (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun r : Role => iprop(∃ κ : ℕ, cellInv ER (sched X) κ (cell c r)))
          ∗ (bigSep Finset.univ fun r : Role => fresh c r) ∗ (bigSep Finset.univ fun r : Role => reached ER (cell c r) 0)
          ∗ bigSep Finset.univ fun r : Role => tok c r) := by
  have h : iprop((bigSep Finset.univ fun r : Role => semVal (cell c r) 0) ∗ bigSep Finset.univ fun r : Role => roundState ER (sched X) (cell c r) 0)
      ⊢ (|={Set.univ}=> bigSep Finset.univ fun r : Role => iprop(∃ κ : ℕ, cellInv ER (sched X) κ (cell c r)) : sProp 𝕄) := by
    rw [← bigSep_sep']
    exact (bigSep_mono fun r _ => (Rounds.body_intro ER (sched X) (cell c r)).trans inv_alloc).trans (bigSep_fupd _ _)
  unfold dealt
  iintro ⟨Ho, Hu, Hst, Hrest⟩
  ihave Hz := (Entails.of_eq ((sems_eq (F := F) c).trans (zeros_eq c))) $$ [Ho Hu]
  · isplitl [Hu] <;> iassumption
  imod h $$ [Hz Hst] with Hi
  · isplitl [Hz] <;> iassumption
  imodintro
  isplitl [Hi] <;> iassumption

omit [FloatOps F] in
/-- What everyone may keep is kept by each. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- All devices' cells, open, made each device's share. -/
theorem gather :
    (bigSep Finset.univ fun c : Dev nD => iprop((bigSep Finset.univ fun r : Role => iprop(∃ κ : ℕ, cellInv ER (sched X) κ (cell c r)))
          ∗ (bigSep Finset.univ fun r : Role => fresh c r) ∗ (bigSep Finset.univ fun r : Role => reached ER (cell c r) 0)
          ∗ bigSep Finset.univ fun r : Role => tok c r) : sProp 𝕄)
      ⊢ bigSep Finset.univ (ready X) := by
  rw [bigSep_sep', bigSep_sep', bigSep_sep', tokens_dealt, ← bigSep_univ_prod (fun x : Dev nD × Role => iprop(∃ κ : ℕ, cellInv ER (sched X) κ (cell x.1 x.2))),
    ← bigSep_univ_prod (fun x : Dev nD × Role => (reached ER (cell x.1 x.2) 0 : sProp 𝕄))]
  iintro ⟨HI, Hat, #HR, Htok⟩
  ihave HK := (BI.bigSep_exists_pi Finset.univ (fun (x : Dev nD × Role) (κ : ℕ) => (cellInv ER (sched X) κ (cell x.1 x.2) : sProp 𝕄))) $$ HI
  icases HK with ⟨%K, #HI⟩
  iapply (share_out (R := records X K) (Φ := fun c => iprop((bigSep Finset.univ fun r : Role => fresh c r) ∗ payments c)) fun c => by
    unfold ready
    rw [← positions_eq]
    iintro ⟨H1, H2⟩
    iexists K
    isplitl [H1] <;> iassumption)
  isplitr
  · unfold records; isplitl; · iexact HI
    iexact HR
  · rw [bigSep_sep']
    isplitl [Hat] <;> iassumption

theorem open_all : (bigSep Finset.univ fun c => iprop(Pipeline.ownSems0 (Ix := Unit) (Name := ℕ) (U := UU) (Lvl := ℕ) (Val := Elt F) (τ := τ) osem c
      ∗ unscopedSems0 c ∗ dealt X c) : sProp 𝕄)
    ⊢ |={Set.univ}=> bigSep Finset.univ (ready X) :=
  ((bigSep_mono fun c _ => open_cells X c).trans (bigSep_fupd _ _)).trans (BI.fupd_mono (gather X))

/-! ## The promises -/

/-- The parts paid by a peer. -/
def paid : Fin 2 ⊕ Fin 6 → Role := Sum.map id Sum.inr

/-- A payment owed to the peer's cell of part `r'`, looked up at a cell. -/
theorem owed_at (p : Fin 2) (d c : Dev nD) (r r' : Role) (n : ℕ) :
    (tallyAt (cell (peer p d) r') () n : CellTallies nD τ sig Unit) (cell c r) () = if r = r' ∧ d = peer p c then n else 0 := by
  rw [tallyAt_apply]
  refine if_congr ⟨fun h => ?_, fun h => ?_⟩ rfl rfl
  · obtain ⟨h1, h2⟩ := cell_inj h.1
    exact ⟨h2, by rw [h1, peer_peer]⟩
  · obtain ⟨h1, h2⟩ := h
    subst h1 h2
    exact ⟨by rw [peer_peer], rfl⟩

/-- Each cell paid by a peer is owed its payment, by that peer alone. -/
theorem owed_eq (d c : Dev nD) (x : Fin 2 ⊕ Fin 6) :
    O₀ d (cell c (paid x)) () = if d = payer (paid x) c then amt (paid x) else 0 := by
  unfold O₀ O₁
  simp only [oweL, Pi.add_apply, Finsupp.add_apply, owed_at, Pi.zero_apply, Finsupp.zero_apply]
  rcases x with k | i
  · fin_cases k <;> simp [paid, payer, flip, amt] <;> rfl
  · fin_cases i <;> simp [paid, payer, flip, amt, ax] <;> rfl

theorem launch_due (c : Dev nD) (x : Fin 2 ⊕ Fin 6) :
    tallyOn (cell c (paid x)) (launchCredit (Pipeline.owing O₀) 0 (cell c (paid x))) = (tallyAt (cell c (paid x)) () (amt (paid x)) : CellTallies nD τ sig Unit) := by
  unfold tallyAt; refine congrArg _ (Finsupp.ext fun u => ?_); cases u
  rw [Pipeline.launchCredit_owing, Finsupp.single_eq_same, Finset.sum_congr rfl fun d _ => owed_eq d c x,
    Finset.sum_ite_eq' Finset.univ (payer (paid x) c) fun _ => amt (paid x), if_pos (Finset.mem_univ _)]

theorem paid_inj : Function.Injective (fun x => csem (paid x)) := by decide +kernel

omit [FloatOps F] in
/-- What the launch promises holds a device's promises. -/
theorem promised (c : Dev nD) : (Pipeline.launchCred O₀ c : sProp 𝕄) ⊢ promises c := by
  unfold Pipeline.launchCred
  have e : (bigSep (Finset.univ.map ⟨_, paid_inj⟩) fun sm : SemLoc sig =>
      cred (tallyOn ((c.tc : Thread nD τ), sm) (launchCredit (Pipeline.owing O₀) 0 ((c.tc : Thread nD τ), sm))) : sProp 𝕄) = promises c := by
    rw [bigSep_map]
    refine (bigSep_congr fun x _ => congrArg cred (launch_due c x)).trans ?_
    rw [bigSep_univ_sum, two_eq, six_eq]; rfl
  rw [← e]
  exact bigSep_subset (Finset.subset_univ _)

end Cert.Exchange
-- ==== Proof.Start.lean ====
/-
# The whole run

The kernel launched on every device from any memory: it ends, with each device's block of `x` as it was, its result at the
stacked sums, and every semaphore at zero.
-/
module

public import proofs.«01_k».proof.Proof.Deal
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What the launch stages of device `c`'s block of `x`. -/
def staged (c : Dev nD) : (cc0_stg0_0 : Ref sig .tc).ty.Contents (Elt F) :=
  (win0_0.blk (0 : Fin 1)).view.read (Elt F) (m ((c : Thread nD τ).loc main_arg0))

/-- What a device has before its scratch buffers are handed in, -/
def begun (c : Dev nD) : sProp 𝕄 := iprop(ready (staged m) c ∗ promises c ∗ levAts L lv)
/-- with them, -/
def entering (c : Dev nD) : sProp 𝕄 := iprop(begun m c ∗ scratch c)
/-- and what it has at the end. -/
def leaving (c : Dev nD) : sProp 𝕄 := iprop(scratch c ∗ zeros c)

/-- The launch's data on device `c`: the arrays' contents, the staging buffers' after the body, what is held and owed around it. -/
def dats (_ : Fin 1) (c : Dev nD) : Dat τ (Elt F) Unit ℕ UU ℕ cfg0 c where
  A w := m ((cfg0.win w).arr.view.loc (c : Thread nD τ))
  after w _ := match w with
    | ⟨0, _⟩ => staged m c
    | ⟨1, _⟩ => outOf (staged m) c
  Φ t := match t with
    | ⟨0, _⟩ => entering m c
    | ⟨_ + 1, _⟩ => leaving c
  q _ := fullShare
  owed t := match t with
    | ⟨0, _⟩ => O₀ c
    | ⟨_ + 1, _⟩ => 0

/-! ## The body at the launch's one point -/

theorem fetch_x (t : Fin cfg0.N) : (cfg0.win (0 : Fin 2)).fetch t = true := by
  rw [show t = t0_0 from fin_N0 t]; rfl

omit [FloatOps F] in
/-- A whole buffer owned at contents `v`. -/
theorem owns_buffer (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- The buffer `b` at contents equal to `v`. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

set_option maxRecDepth 4000 in
/-- The body's start at the launch's point, -/
def atStart (c : Dev nD) : sProp 𝕄 :=
  iprop(entering m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
/-- and its end. -/
def atEnd (c : Dev nD) : sProp 𝕄 :=
  iprop(leaving c ∗ (dats m 0 c).owesAt () t0_0.succ ∗ stg c cc0_stg0_0 (staged m c) ∗ stg c cc0_stg1_0 (outOf (staged m) c))

/-- What is owed at the start is the debt of the whole body, -/
theorem debt_start (c : Dev nD) : (dats m 0 c).owesAt () t0_0.castSucc ⊢ debt c (O₀ c) := by
  unfold Dat.owesAt Pipeline.owesWithin debt
  rw [show (dats m 0 c).owed t0_0.castSucc = O₀ c from rfl]
  iintro ⟨%W, -, H⟩
  iexists W; iexact H
/-- and none is owed at the end. -/
theorem debt_end (c : Dev nD) : debt c 0 ⊢ (dats m 0 c).owesAt () t0_0.succ := by
  unfold Dat.owesAt Pipeline.owesWithin debt
  rw [show (dats m 0 c).owed t0_0.succ = 0 from rfl]
  iintro ⟨%W, H⟩
  iexists W
  isplitr; · ipureintro; exact fun _ _ => Or.inl trivial
  iexact H

theorem before_x (c : Dev nD) (d) : (dats m 0 c).before (0 : Fin 2) t0_0 d = staged m c := by
  unfold Dat.before; rw [if_pos (fetch_x t0_0)]; rfl

/-- The body takes the start to the end. -/
theorem body_meets (c : Dev nD) : atStart m c ⊢ runs c (cc0_body (F := F) (Memref.whole cc0_stg0_0) (Memref.isWhole_whole _) (Memref.whole cc0_stg1_0)
      (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4)
      (Memref.isWhole_whole _) (Memref.whole cc0_scratch5) (Memref.isWhole_whole _) cc0_scratch6 cc0_scratch7 cc0_scratch8 cc0_scratch9 cc0_scratch10
      cc0_scoped0) (fun _ => atEnd m c) := by
  unfold atStart entering begun ready
  iintro ⟨⟨⟨⟨%K, HR, Hpos, Hpay⟩, Hprom, Hlev⟩, Hscr⟩, Ho, ⟨%d0, %f0, %h0, Hx⟩, ⟨%d1, %f1, %h1, Hout⟩⟩
  have hx : f0 = staged m c := h0.trans (before_x m c d0)
  subst hx
  ihave Hd := (debt_start m c) $$ Ho
  iapply (body_run (staged m) K c f1 fun _ => atEnd m c)
  isplitr []
  · unfold before
    isplitl [HR Hlev]
    · isplitl [HR] <;> iassumption
    isplitl [Hpos]; · iexact Hpos
    isplitl [Hpay]; · iexact Hpay
    isplitl [Hprom]; · iexact Hprom
    isplitl [Hscr]; · iexact Hscr
    isplitl [Hd]; · iexact Hd
    isplitl [Hx] <;> iassumption
  · unfold after atEnd leaving
    iintro ⟨Hscr, Hz, Hd, Hx, Hout⟩
    isplitl [Hscr Hz]
    · isplitl [Hscr] <;> iassumption
    isplitl [Hd]
    · iapply (debt_end m c); iexact Hd
    isplitl [Hx]
    · iexists _; isplitr; · (ipureintro; rfl)
      iexact Hx
    iexists _; isplitr; · (ipureintro; rfl)
    iexact Hout

set_option maxRecDepth 4000 in
theorem body_obligation (c : Dev nD) : BodyObligation (dats (F := F) m 0 c) (defs₀ (F := F)) 𝒱₀ () Set.univ := fun t => by
  rw [show t = t0_0 from fin_N0 t]
  rw [bigSep_W0, bigSep_W0]
  simp only [owns_buffer]
  exact body_meets m c

/-! ## Entering and leaving the launch -/

theorem share_whole (c : Dev nD) (w : Fin cfg0.W) : (dats m 0 c).share w = fullShare := by unfold Dat.share; split <;> rfl

theorem begin (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready (staged m) c)
      ⊢ |={Set.univ}=> iprop(begun m c ∗ emp) := by
  iintro ⟨-, Hlev, Hcr, -, HG⟩
  ihave Hp := (promised (F := F) c) $$ Hcr
  imodintro
  unfold begun
  isplitl
  · isplitl [HG]; · iexact HG
    isplitl [Hp] <;> iassumption
  · iempintro

omit [FloatOps F] in
/-- The buffers in the kernel's scope beside the staged ones are the six scratch buffers. -/
theorem scope_eq (c : Dev nD) : (Pipeline.scopedRest cfg0.spec c : sProp 𝕄) = scratch c := scopedRest0_eq c

theorem enter (c : Dev nD) :
    iprop(begun m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = entering m c from rfl, scope_eq]
  unfold entering
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = leaving c from rfl, scope_eq, ← regroup, sems_eq]
  unfold leaving
  iintro ⟨Hr, Hz⟩
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

/-! ## The run -/

/-- What window `w`'s array of device `c` holds at the end. -/
def final (c : Dev nD) (w : Fin cfg0.W) : Buf (Elt F) ((cfg0.win w).arr.view.loc (c : Thread nD τ)) := (dats m 0 c).arrAt w cfg0.N

set_option maxRecDepth 8000 in
/-- Launched from any memory with every semaphore at zero, the kernel ends on every device, its arrays final and every
    semaphore back at zero. -/
theorem run_all : θ_run (defs (F := F)) (onTc (τ := τ) (main (F := F))) ⟨m, fun _ => 0, ρ⟩ (fun r =>
    (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_whole m)
    (hdistinct := winFacts0.arr_inj)
    (O₀ := O₀) (howed₀ := fun _ => rfl) (howedN := fun _ => rfl)
    (L := L) (lv := lv) (hL := L_of_ne) (hwaits := waits m)
    (G := dealt (staged m)) (G' := ready (staged m)) (u₀ := u₀)
    (hu₀ := by
      unfold u₀
      iintro Hu
      ihave H := (ownU_pair _ _) $$ Hu
      icases H with ⟨HP, HX⟩
      imod (fund_all (staged m)) $$ HX with HG
      imodintro
      isplitl [HP] <;> iassumption)
    (hglob := open_all (staged m))
    (hA := fun _ _ => rfl) (hpf := fun _ k => k.elim0)
    (X := begun m) (Y := fun c => unscopedSems0 c) (Z := fun _ => iprop(emp))
    (hX := begin m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Sums.lean ====
/-
# What the run leaves

The launch's arrays at the end: the argument as it was, the result the two stacked halves; and, over the extended reals,
each half an entry of the sum of all four blocks.
-/
module

public import proofs.«01_k».proof.Proof.Start
public import Idealize.ShloMosaic.Lib.Pipeline.ValueKit
public import Idealize.ShloMosaic.Lib.Pipeline.Value
public import Idealize.ShloMosaic.Lib.Pointwise
public import Idealize.ShloMosaic.Lib.Layout
public import Idealize.ShloMosaic.PureOps.Ideal

@[expose] public section

noncomputable section

namespace Cert.Exchange

open Cert.KernelIdeal Cert.KernelIdeal.Gen

open Idealize.ShloMosaic
open Idealize.ShloMosaic.TcCoe
open Idealize.SL Idealize.SL.Sem
open Idealize.ShloMosaic.Pipeline (Dat)

section Arrays

variable {F : FTy → Type} [FloatOps F] (m : (ℓ : Loc nD τ sig) → Buf (Elt F) ℓ)

/-- The one point's block of the argument is its whole array, -/
theorem block_x (i : (win0_0.xblock (grid0.coords (0 : Fin 1))).Idx) : (win0_0.blk (0 : Fin 1)).view.emb i = i := by
  funext a; apply Fin.ext
  match a with
  | ⟨0, _⟩ => blk_simp; rfl
  | ⟨1, _⟩ => blk_simp; exact Nat.zero_add _
  | ⟨2, _⟩ => blk_simp; exact Nat.zero_add _
/-- and its block of the result that whole array. -/
theorem block_y (t : Fin 1) (y : (win0_1.xblock (grid0.coords t)).Idx) : (win0_1.blk t).view.emb y = y := by
  funext a; apply Fin.ext
  match t, a with
  | 0, ⟨0, _⟩ => blk_simp; exact Nat.zero_add _
  | 0, ⟨1, _⟩ => blk_simp; exact Nat.zero_add _

/-- The argument's array ends as it was; -/
theorem final_x (c : Dev nD) : final m c (0 : Fin 2) = m ((c : Thread nD τ).loc main_arg0) :=
  (dats (F := F) m 0 c).arrAt_in (0 : Fin 2) rfl _

/-- the result's holds what the body left. -/
theorem final_y (c : Dev nD) : final m c (1 : Fin 2) = outOf (staged m) c := by
  refine (dats (F := F) m 0 c).arrAt_eq_of_covers (1 : Fin 2) (outOf (staged m) c) (by decide +kernel) fun t hf y => ?_
  exact (congrArg (outOf (staged m) c) (block_y t y)).symm

/-- The whole block is staged. -/
theorem staged_eq (c : Dev nD) : staged m c = m ((c : Thread nD τ).loc main_arg0) := by
  exact funext fun i => congrArg (m ((c : Thread nD τ).loc main_arg0)) (block_x i)

end Arrays

/-! ## Offsets

Every tile that enters chunk `c`'s sum starts at column `256 * c`, in the top half at row 0, in the bottom half at row 128. -/

theorem off_top (c : Dev nD) : k0_off5 c = ![0, 256 * c.val] ∧ k0_off1 (peer 0 c) 1#32 = ![0, 256 * c.val]
    ∧ k0_off1 (peer 0 (peer 1 c)) 2#32 = ![0, 256 * c.val] ∧ k0_off3 (peer 1 c) = ![0, 256 * c.val] := by
  revert c; decide +kernel
theorem off_bot (c : Dev nD) : k0_off6 c = ![128, 256 * c.val] ∧ k0_off2 (peer 1 c) 3#32 = ![128, 256 * c.val]
    ∧ k0_off2 (peer 1 (peer 0 c)) 2#32 = ![128, 256 * c.val] ∧ k0_off4 (peer 0 c) = ![128, 256 * c.val] := by
  revert c; decide +kernel

/-! ## One entry -/

/-- A tile of a block, read at an entry. -/
theorem xAt_apply {F : FTy → Type} (o : Fin 2 → Nat) (h : ∀ a, o a + S128x256.size a ≤ S256x1024.size a)
    (f : (cc0_stg0_0 : Ref sig .tc).ty.Contents (Elt F)) (p : S128x256.Idx) (i : S1x256x1024.Idx)
    (h1 : (i 1).val = o 0 + (p 0).val) (h2 : (i 2).val = o 1 + (p 1).val) : xAt o h f p = f i := by
  have hc : S1x256x1024.ShapeCasts S256x1024 := by decide
  have e : xAt o h f p = shapeCast S256x1024 ((Memref.whole cc0_stg0_0).view.readAt (Elt F)
      (Rect.unit (s := S1x256x1024) ![0,0,0] S1x256x1024.size inb_S1x256x1024_S1x256x1024_0_0_0).toLoadRect f) hc
      ((Rect.unit (s := S256x1024) o S128x256.size h).idx p) := rfl
  rw [e, shapeCast_apply _ hc _ i]
  · show f _ = f i
    refine congrArg f (funext fun a => Fin.ext ?_)
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  · have h0 : (i 0).val = 0 := Nat.lt_one_iff.mp (i 0).isLt
    refine (Shape.rowMajor_val_three (d := ![1, 256, 1024]) i).trans (Eq.trans ?_ (Shape.rowMajor_val_two (d := ![256, 1024]) _).symm)
    show ((i 0).val * 256 + (i 1).val) * 1024 + (i 2).val = (o 0 + 1 * (p 0).val) * 1024 + (o 1 + 1 * (p 1).val)
    omega

/-! ## The entries over the extended reals -/

section Ideals

variable (X : Dev nD → (cc0_stg0_0 : Ref sig .tc).ty.Contents (Elt Ideal)) (x : (⟨3, ![4, 256, 1024]⟩ : Shape).Idx → EReal)

/-- Device `c`'s block is row `c` of the whole argument. -/
def Cut : Prop := ∀ (c : Dev nD) (i : S1x256x1024.Idx) (k : (⟨3, ![4, 256, 1024]⟩ : Shape).Idx),
  (k 0).val = c.val → (k 1).val = (i 1).val → (k 2).val = (i 2).val → X c i = x k

variable {X x}

/-- A tile's entry is the whole argument's at its device, row and column. -/
theorem tile_at (hX : Cut X x) (d : Fin 4) (o : Fin 2 → Nat) (h : ∀ a, o a + S128x256.size a ≤ S256x1024.size a) (r : Nat) (c : Dev nD)
    (ho : o = ![r, 256 * c.val]) (p : S128x256.Idx) (u : Fin 256) (v : Fin 1024) (hu : u.val = r + (p 0).val)
    (hv : v.val = 256 * c.val + (p 1).val) : xAt o h (X d) p = x (ix3 d u v) := by
  subst ho
  rw [xAt_apply _ h (X d) p (ix3 (n0 := 1) (n1 := 256) (n2 := 1024) 0 u v) hu hv]
  exact hX d _ _ rfl rfl rfl

/-- The four devices, as a half's sum meets them: itself, a neighbour, the neighbour's other neighbour, the other. -/
theorem all_four (f : Fin 4 → EReal) (c : Fin 4) (k l : Fin 2) (hk : k ≠ l) :
    f c + f (peer k c) + (f (peer k (peer l c)) + f (peer l c)) = ∑ d, f d := by
  have e : ∀ i j : Fin 2, i ≠ j → ∀ d : Fin 4, ([d, peer i d, peer i (peer j d), peer j d] : List (Fin 4)).Perm [0, 1, 2, 3] := by
    decide +kernel
  have h := ((e k l hk c).map f).sum_eq
  simp only [List.map_cons, List.map_nil, List.sum_cons, List.sum_nil, add_zero] at h
  rw [Fin.sum_univ_four, add_assoc, h]
  simp only [add_assoc]

/-- An entry of the upper half is the sum over the devices. -/
theorem top_at (hX : Cut X x) (c : Dev nD) (p : S128x256.Idx) (u : Fin 256) (v : Fin 1024) (hu : u.val = 0 + (p 0).val)
    (hv : v.val = 256 * c.val + (p 1).val) : topOf X c p = ∑ d : Fin 4, x (ix3 d u v) := by
  obtain ⟨o1, o2, o3, o4⟩ := off_top c
  have e : topOf X c p = xAt _ (k0_off5_inb c) (X c) p + xAt (k0_off1 (peer 0 c) 1#32) (k0_off1_inb (peer 0 c) 0) (X (peer 0 c)) p
      + (xAt (k0_off1 (peer 0 (peer 1 c)) 2#32) (k0_off1_inb (peer 0 (peer 1 c)) 1) (X (peer 0 (peer 1 c))) p + xAt _ (k0_off3_inb (peer 1 c)) (X (peer 1 c)) p) := rfl
  rw [e, tile_at hX c _ _ 0 c o1 p u v hu hv, tile_at hX (peer 0 c) _ _ 0 c o2 p u v hu hv,
    tile_at hX (peer 0 (peer 1 c)) _ _ 0 c o3 p u v hu hv, tile_at hX (peer 1 c) _ _ 0 c o4 p u v hu hv]
  exact all_four (fun d => x (ix3 d u v)) c 0 1 (by decide)

/-- An entry of the lower half likewise. -/
theorem bot_at (hX : Cut X x) (c : Dev nD) (p : S128x256.Idx) (u : Fin 256) (v : Fin 1024) (hu : u.val = 128 + (p 0).val)
    (hv : v.val = 256 * c.val + (p 1).val) : botOf X c p = ∑ d : Fin 4, x (ix3 d u v) := by
  obtain ⟨o1, o2, o3, o4⟩ := off_bot c
  have e : botOf X c p = xAt _ (k0_off6_inb c) (X c) p + xAt (k0_off2 (peer 1 c) 3#32) (k0_off2_inb (peer 1 c) 1) (X (peer 1 c)) p
      + (xAt (k0_off2 (peer 1 (peer 0 c)) 2#32) (k0_off2_inb (peer 1 (peer 0 c)) 0) (X (peer 1 (peer 0 c))) p + xAt _ (k0_off4_inb (peer 0 c)) (X (peer 0 c)) p) := rfl
  rw [e, tile_at hX c _ _ 128 c o1 p u v hu hv, tile_at hX (peer 1 c) _ _ 128 c o2 p u v hu hv,
    tile_at hX (peer 1 (peer 0 c)) _ _ 128 c o3 p u v hu hv, tile_at hX (peer 0 c) _ _ 128 c o4 p u v hu hv]
  exact all_four (fun d => x (ix3 d u v)) c 1 0 (by decide)

/-- Device `c`'s result at row `u` and column `q` is the sum of the four blocks at row `u` and column `256 * c + q`. -/
theorem out_at (hX : Cut X x) (c : Dev nD) (j : S256x256.Idx) (u : Fin 256) (v : Fin 1024) (hu : u.val = (j 0).val)
    (hv : v.val = 256 * c.val + (j 1).val) : outOf X c j = ∑ d : Fin 4, x (ix3 d u v) := by
  have hr : (j (0 : Fin 2)).val < 256 := (j 0).isLt
  have hq : (j (1 : Fin 2)).val < 256 := (j 1).isLt
  have w0 : ((within j) 0).val = (j (0 : Fin 2)).val % 128 := rfl
  have w1 : ((within j) 1).val = (j (1 : Fin 2)).val % 256 := rfl
  unfold outOf stack
  split
  · exact top_at hX c _ u v (by rw [w0]; omega) (by rw [w1]; omega)
  · exact bot_at hX c _ u v (by rw [w0]; omega) (by rw [w1]; omega)

end Ideals

end Cert.Exchange
-- ==== Proof.lean ====
/-
# The kernel is correct

Four devices each hold one block of `x`; the kernel leaves device `c` columns `256 * c` to `256 * c + 255` of the sum of the
four blocks. `Proof/Start.lean` runs the program (`run_all`, for any float values), `Proof/Sums.lean` reads what it leaves;
here the program's two readings are taken at their float values and set beside the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Sums
public import Idealize.ShloMosaic.Lib.Quiescent
public import Idealize.ShloMosaic.Lib.IdealHost
public import Idealize.ShloMosaic.Adequacy
public import Idealize.ShloMosaic.Init

@[expose] public section

noncomputable section

namespace Cert.Proof

open Idealize.ShloMosaic Idealize.SL.Sem Cert.Exchange

/-! ## The kernel's frames -/

/-- The kernel and its reading over exact values call the same launch, -/
theorem launches_eq {F : FTy → Type} [FloatOps F] : Cert.Kernel.defs₀ (F := F) = Cert.KernelIdeal.defs₀ (F := F) := by
  refine congrArg Defs.onTc (funext fun l => ?_)
  match l with
  | ⟨0, _⟩ => exact funext fun a => rfl
/-- so the same definitions. -/
theorem defs_eq {F : FTy → Type} [FloatOps F] : Cert.Kernel.defs (F := F) = Cert.KernelIdeal.defs (F := F) :=
  congrArg (Pipeline.defs Cert.KernelIdeal.pcfgs) launches_eq

/-- The kernel runs, leaves its argument and returns every semaphore to zero. -/
theorem frame_kernel : Cert.quiescent_Kernel (hKernel := Cert.Kernel.Gen.facts) := fun m g _ => by
  rw [defs_eq]
  exact (θ_run _ _ _).mono (fun r h => ⟨fun c => (h.1 c (0 : Fin 2)).trans (final_x m c), h.2⟩) (run_all m g)

/-- So does it over exact values. -/
theorem frame_ideal : Cert.quiescent_KernelIdeal (hKernelIdeal := Cert.KernelIdeal.Gen.facts) := fun m g _ =>
  (θ_run _ _ _).mono (fun r h => ⟨fun c => (h.1 c (0 : Fin 2)).trans (final_x m c), h.2⟩) (run_all m g)

/-- And the reference, which has no semaphores. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-! ## The value -/

/-- What the reference computes of the whole argument. -/
def total (x : (⟨3, ![4, 256, 1024]⟩ : Shape).Idx → EReal) : (⟨2, ![256, 1024]⟩ : Shape).Idx → EReal :=
  Host.reduceAdd (F := Ideal) (φ := .f32) x (constant Cert.ReferenceIdeal.S_ .f32 0x00000000#32) Cert.ReferenceIdeal.Gen.reducesTo_S4x256x1024_S256x1024_d0
    Cert.ReferenceIdeal.Gen.h_S_

/-- It is the sum over the leading axis, entry by entry. -/
theorem total_at (x : (⟨3, ![4, 256, 1024]⟩ : Shape).Idx → EReal) (j : (⟨2, ![256, 1024]⟩ : Shape).Idx) (u : Fin 256) (v : Fin 1024)
    (hu : u.val = (j 0).val) (hv : v.val = (j 1).val) : total x j = ∑ d : Fin 4, x (ix3 d u v) := by
  unfold total
  rw [show ∀ i (h : Shape.ReducesTo _ _ _) h', Host.reduceAdd (F := Ideal) (φ := .f32) x i h h' j = Ideal.hostReduceAdd h x (i (Shape.Idx.first h')) j
    from fun _ _ _ => rfl, Ideal.hostReduceAdd_r3_a0]
  refine (congrArg (· + _) Ideal.ofBits_zero_f32).trans ((zero_add _).trans (Finset.sum_congr rfl fun d _ => ?_))
  exact congrArg₂ (fun a b => x (ix3 d a b)) (Fin.ext hu.symm) (Fin.ext hv.symm)

/-- A device's result is its block of the reference's. -/
theorem result_eq (X : Dev 4 → (⟨3, ![1, 256, 1024]⟩ : Shape).Idx → EReal) (x : (⟨3, ![4, 256, 1024]⟩ : Shape).Idx → EReal)
    (hX : ∀ c, X c = Layout.block ⟨3, ![1, 256, 1024]⟩ ⟨3, ![4, 256, 1024]⟩ 0 4 c x) (c : Dev 4) :
    outOf (F := Ideal) X c = Layout.block ⟨2, ![256, 256]⟩ ⟨2, ![256, 1024]⟩ 1 4 c (total x) := by
  have cut : Cut X x := fun d i k h0 h1 h2 => by
    have i0 : (i 0).val = 0 := Nat.lt_one_iff.mp (i 0).isLt
    rw [hX d, Layout.block_apply]
    refine congrArg x (funext fun a => Fin.ext ?_)
    match a with
    | ⟨0, _⟩ => show d.val * 1 + (i 0).val = (k 0).val; omega
    | ⟨1, _⟩ => exact h1.symm
    | ⟨2, _⟩ => exact h2.symm
  funext j
  rw [Layout.block_apply]
  have hu : (j 0).val < 256 := (j 0).isLt
  have hv : c.val * 256 + (j 1).val < 1024 := by
    have hq : (j 1).val < 256 := (j 1).isLt
    have hc : c.val < 4 := c.isLt
    omega
  rw [total_at x _ ⟨(j 0).val, hu⟩ ⟨c.val * 256 + (j 1).val, hv⟩ rfl rfl]
  exact out_at cut c j _ _ rfl (congrArg (· + (j 1).val) (Nat.mul_comm _ _))

/-- From memories where each device holds its block of the reference's argument, the kernel leaves each device its block of
    the reference's result. -/
theorem value : Cert.algebraic_KernelIdeal_ReferenceIdeal (hKernelIdeal := Cert.KernelIdeal.Gen.facts)
    (hReferenceIdeal := Cert.ReferenceIdeal.Gen.facts) := fun m g m' g' _ hm => by
  refine ⟨total (m' (((0 : Dev 1).tc : Thread 1 Cert.ReferenceIdeal.τ).loc Cert.ReferenceIdeal.main_arg0)), ?_, ?_⟩
  · refine (θ_run _ _ _).mono (fun r h c => ⟨?_, (h.1 c (0 : Fin 2)).trans (final_x m c)⟩) (run_all m g)
    exact (h.1 c (1 : Fin 2)).trans ((final_y m c).trans (result_eq (staged m) _ (fun d => (staged_eq m d).trans (hm d)) c))
  · exact (θ_run _ _ _).mono (fun r h => h 0) (Cert.ReferenceIdeal.Value.run m' g')

/-- Everything claimed. -/
theorem claim : Cert.Claim := ⟨Cert.Kernel.Gen.facts, Cert.KernelIdeal.Gen.facts, Cert.ReferenceIdeal.Gen.facts,
  frame_kernel, frame_ideal, frame_reference, trivial, value⟩

end Cert.Proof

end
